-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_near [hPre_near : Cert.Pre_near.Facts] (m : (ℓ : Loc Cert.KernelIdeal.nD Cert.KernelIdeal.τ Cert.KernelIdeal.sig) → Buf (Elt Ideal) ℓ) : Prop :=
  ∀ c : Dev Cert.KernelIdeal.nD,
    (Cert.Pre_near.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_near [hPre_near : Cert.Pre_near.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_near.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_near [hKernelIdeal : Cert.KernelIdeal.Facts] [hPre_near : Cert.Pre_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_near m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_near [hReferenceIdeal : Cert.ReferenceIdeal.Facts] [hPre_near : Cert.Pre_near.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_near m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "rbf_step" .f32 0x3F25294A#32 ((20 / 31 : ℝ) : EReal)
  ∧ IdealRules.named_const.Statement Cert.KernelIdeal.κ "rbf_scale" .f32 0x3FA3D70A#32 ((32 / 25 : ℝ) : EReal)

def algebraic_KernelIdeal_ReferenceIdeal_pre_near [hKernelIdeal : Cert.KernelIdeal.Facts] [hReferenceIdeal : Cert.ReferenceIdeal.Facts] [hPre_near : Cert.Pre_near.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_near m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_near : Cert.Pre_near.Facts),
    quiescent_Kernel (hKernel := hKernel)
    ∧ quiescent_KernelIdeal (hKernelIdeal := hKernelIdeal)
    ∧ quiescent_KernelIdeal_pre_near (hKernelIdeal := hKernelIdeal) (hPre_near := hPre_near)
    ∧ quiescent_ReferenceIdeal (hReferenceIdeal := hReferenceIdeal)
    ∧ quiescent_ReferenceIdeal_pre_near (hReferenceIdeal := hReferenceIdeal) (hPre_near := hPre_near)
    ∧ preserves_Kernel_KernelIdeal
    ∧ algebraic_KernelIdeal_ReferenceIdeal_pre_near (hKernelIdeal := hKernelIdeal) (hReferenceIdeal := hReferenceIdeal) (hPre_near := hPre_near)
-- ==== Pre_near.lean ====
abbrev S5000x3 : Shape := ⟨2, ![5000, 3]⟩
abbrev S_ : Shape := ⟨0, ![]⟩

class Facts : Prop where
  bcast_S_S5000x3 : S_.BroadcastsInDim S5000x3 (![] : Fin 0 → Fin S5000x3.rank)
  reducesTo_S5000x3_S_d0_1 : S5000x3.ReducesTo [0, 1] S_
  h_S_ : 0 < S_.numel

variable [Facts]

def fn {F : FTy → Type} [FloatOps F] (main_arg0 : FVec F S5000x3 .f32) : IVec S_ 1 :=
  let main_v0 : FVec F S5000x3 .f32 := Host.absf main_arg0
  let main_cst : FVec F S_ .f32 := constant S_ .f32 0x4D6E6B28#32
  let main_v1 : FVec F S5000x3 .f32 := broadcastInDim S5000x3 ![] bcast_S_S5000x3 main_cst
  let main_v2 : IVec S5000x3 1 := cmpf .ole main_v0 main_v1
  let main_c : IVec S_ 1 := constantI S_ 1 1#1
  let main_v3 : IVec S_ 1 := (fun x v => Host.reduce IntOp.andi x v reducesTo_S5000x3_S_d0_1 h_S_) main_v2 main_c
  main_v3
-- ==== Kernel.lean ====
abbrev S5000x3 : Shape := ⟨2, ![5000, 3]⟩
abbrev S_ : Shape := ⟨0, ![]⟩
abbrev S120x3 : Shape := ⟨2, ![120, 3]⟩
abbrev S5120x3 : Shape := ⟨2, ![5120, 3]⟩
abbrev S5120x128 : Shape := ⟨2, ![5120, 128]⟩
abbrev S1 : Shape := ⟨1, ![1]⟩
abbrev S1280x4x3 : Shape := ⟨3, ![1280, 4, 3]⟩
abbrev S4x1280x3 : Shape := ⟨3, ![4, 1280, 3]⟩
abbrev S8x5120 : Shape := ⟨2, ![8, 5120]⟩
abbrev S3x5120 : Shape := ⟨2, ![3, 5120]⟩
abbrev S5120x32 : Shape := ⟨2, ![5120, 32]⟩
abbrev S5120x30x32 : Shape := ⟨3, ![5120, 30, 32]⟩
abbrev S512x128 : Shape := ⟨2, ![512, 128]⟩
abbrev S512x32 : Shape := ⟨2, ![512, 32]⟩
abbrev S512x30x32 : Shape := ⟨3, ![512, 30, 32]⟩
abbrev S8x128 : Shape := ⟨2, ![8, 128]⟩
abbrev S512x1280 : Shape := ⟨2, ![512, 1280]⟩
abbrev S512x1 : Shape := ⟨2, ![512, 1]⟩
abbrev S1x1280 : Shape := ⟨2, ![1, 1280]⟩
abbrev S1x32 : Shape := ⟨2, ![1, 32]⟩
abbrev S512 : Shape := ⟨1, ![512]⟩
abbrev S512x1x32 : Shape := ⟨3, ![512, 1, 32]⟩
abbrev S5000 : Shape := ⟨1, ![5000]⟩
abbrev S5000x30 : Shape := ⟨2, ![5000, 30]⟩
abbrev S150000 : Shape := ⟨1, ![150000]⟩
abbrev S1x150000 : Shape := ⟨2, ![1, 150000]⟩
abbrev S2x150000 : Shape := ⟨2, ![2, 150000]⟩
abbrev S5000x30x32 : Shape := ⟨3, ![5000, 30, 32]⟩
abbrev S150000x32 : Shape := ⟨2, ![150000, 32]⟩

abbrev nBuf : Space → Nat
  | .hbm => 30
  | .vmem => 8
  | .smem => 0
  | _ => 0

abbrev bufTy : (tb : Table) → Fin (tcTables nBuf tb) → BufTy
  | .hbm, ⟨0, _⟩ => ⟨S5000x3, .f32⟩
  | .hbm, ⟨1, _⟩ => ⟨S_, .f32⟩
  | .hbm, ⟨2, _⟩ => ⟨S120x3, .f32⟩
  | .hbm, ⟨3, _⟩ => ⟨S5120x3, .f32⟩
  | .hbm, ⟨4, _⟩ => ⟨S_, .f32⟩
  | .hbm, ⟨5, _⟩ => ⟨S5120x128, .f32⟩
  | .hbm, ⟨6, _⟩ => ⟨S_, .i32⟩
  | .hbm, ⟨7, _⟩ => ⟨S1, .i32⟩
  | .hbm, ⟨8, _⟩ => ⟨S5120x128, .f32⟩
  | .hbm, ⟨9, _⟩ => ⟨S1280x4x3, .f32⟩
  | .hbm, ⟨10, _⟩ => ⟨S4x1280x3, .f32⟩
  | .hbm, ⟨11, _⟩ => ⟨S5120x3, .f32⟩
  | .hbm, ⟨12, _⟩ => ⟨S_, .f32⟩
  | .hbm, ⟨13, _⟩ => ⟨S8x5120, .f32⟩
  | .hbm, ⟨14, _⟩ => ⟨S3x5120, .f32⟩
  | .hbm, ⟨15, _⟩ => ⟨S_, .i32⟩
  | .hbm, ⟨16, _⟩ => ⟨S1, .i32⟩
  | .hbm, ⟨17, _⟩ => ⟨S8x5120, .f32⟩
  | .hbm, ⟨18, _⟩ => ⟨S5120x32, .i32⟩
  | .hbm, ⟨19, _⟩ => ⟨S5120x30x32, .f32⟩
  | .hbm, ⟨20, _⟩ => ⟨S5000, .i32⟩
  | .hbm, ⟨21, _⟩ => ⟨S5000x30, .i32⟩
  | .hbm, ⟨22, _⟩ => ⟨S150000, .i32⟩
  | .hbm, ⟨23, _⟩ => ⟨S5000x30, .i32⟩
  | .hbm, ⟨24, _⟩ => ⟨S150000, .i32⟩
  | .hbm, ⟨25, _⟩ => ⟨S1x150000, .i32⟩
  | .hbm, ⟨26, _⟩ => ⟨S1x150000, .i32⟩
  | .hbm, ⟨27, _⟩ => ⟨S2x150000, .i32⟩
  | .hbm, ⟨28, _⟩ => ⟨S5000x30x32, .f32⟩
  | .hbm, ⟨29, _⟩ => ⟨S150000x32, .f32⟩
  | .local _ .vmem, ⟨0, _⟩ => ⟨S512x128, .f32⟩
  | .local _ .vmem, ⟨1, _⟩ => ⟨S512x128, .f32⟩
  | .local _ .vmem, ⟨2, _⟩ => ⟨S8x5120, .f32⟩
  | .local _ .vmem, ⟨3, _⟩ => ⟨S512x32, .i32⟩
  | .local _ .vmem, ⟨4, _⟩ => ⟨S512x32, .i32⟩
  | .local _ .vmem, ⟨5, _⟩ => ⟨S512x30x32, .f32⟩
  | .local _ .vmem, ⟨6, _⟩ => ⟨S512x30x32, .f32⟩
  | .local _ .vmem, ⟨7, _⟩ => ⟨S8x128, .f32⟩
  | _, _ => ⟨S5000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x30x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "rbf_scale" => some ((32 / 25 : ℝ) : EReal)
  | "rbf_step" => some ((20 / 31 : ℝ) : EReal)
  | _ => none
-- ==== ReferenceIdeal.lean ====
abbrev S5000x3 : Shape := ⟨2, ![5000, 3]⟩
abbrev S5000x1x3 : Shape := ⟨3, ![5000, 1, 3]⟩
abbrev S1x5000x3 : Shape := ⟨3, ![1, 5000, 3]⟩
abbrev S5000x5000x3 : Shape := ⟨3, ![5000, 5000, 3]⟩
abbrev S_ : Shape := ⟨0, ![]⟩
abbrev S5000x5000 : Shape := ⟨2, ![5000, 5000]⟩
abbrev S5000x31 : Shape := ⟨2, ![5000, 31]⟩
abbrev S5000x30 : Shape := ⟨2, ![5000, 30]⟩
abbrev S5000 : Shape := ⟨1, ![5000]⟩
abbrev S150000 : Shape := ⟨1, ![150000]⟩
abbrev S1x150000 : Shape := ⟨2, ![1, 150000]⟩
abbrev S2x150000 : Shape := ⟨2, ![2, 150000]⟩
abbrev S150000x1 : Shape := ⟨2, ![150000, 1]⟩
abbrev S150000x2 : Shape := ⟨2, ![150000, 2]⟩
abbrev S31 : Shape := ⟨1, ![31]⟩
abbrev S1 : Shape := ⟨1, ![1]⟩
abbrev S32 : Shape := ⟨1, ![32]⟩
abbrev S1x32 : Shape := ⟨2, ![1, 32]⟩
abbrev S150000x32 : Shape := ⟨2, ![150000, 32]⟩

abbrev nBuf : Space → Nat
  | .hbm => 87
  | .vmem => 0
  | .smem => 0
  | _ => 0

abbrev bufTy : (tb : Table) → Fin (tcTables nBuf tb) → BufTy
  | .hbm, ⟨0, _⟩ => ⟨S5000x3, .f32⟩
  | .hbm, ⟨1, _⟩ => ⟨S5000x1x3, .f32⟩
  | .hbm, ⟨2, _⟩ => ⟨S1x5000x3, .f32⟩
  | .hbm, ⟨3, _⟩ => ⟨S5000x5000x3, .f32⟩
  | .hbm, ⟨4, _⟩ => ⟨S5000x5000x3, .f32⟩
  | .hbm, ⟨5, _⟩ => ⟨S5000x5000x3, .f32⟩
  | .hbm, ⟨6, _⟩ => ⟨S5000x5000x3, .f32⟩
  | .hbm, ⟨7, _⟩ => ⟨S_, .f32⟩
  | .hbm, ⟨8, _⟩ => ⟨S5000x5000, .f32⟩
  | .hbm, ⟨9, _⟩ => ⟨S_, .f32⟩
  | .hbm, ⟨10, _⟩ => ⟨S5000x5000, .f32⟩
  | .hbm, ⟨11, _⟩ => ⟨S5000x5000, .f32⟩
  | .hbm, ⟨12, _⟩ => ⟨S5000x5000, .f32⟩
  | .hbm, ⟨13, _⟩ => ⟨S5000x5000, .f32⟩
  | .hbm, ⟨14, _⟩ => ⟨S5000x31, .f32⟩
  | .hbm, ⟨15, _⟩ => ⟨S5000x31, .i32⟩
  | .hbm, ⟨16, _⟩ => ⟨S5000x30, .i32⟩
  | .hbm, ⟨17, _⟩ => ⟨S5000, .i32⟩
  | .hbm, ⟨18, _⟩ => ⟨S5000x30, .i32⟩
  | .hbm, ⟨19, _⟩ => ⟨S150000, .i32⟩
  | .hbm, ⟨20, _⟩ => ⟨S150000, .i32⟩
  | .hbm, ⟨21, _⟩ => ⟨S1x150000, .i32⟩
  | .hbm, ⟨22, _⟩ => ⟨S1x150000, .i32⟩
  | .hbm, ⟨23, _⟩ => ⟨S2x150000, .i32⟩
  | .hbm, ⟨24, _⟩ => ⟨S_, .i32⟩
  | .hbm, ⟨25, _⟩ => ⟨S150000, .i32⟩
  | .hbm, ⟨26, _⟩ => ⟨S150000, .i1⟩
  | .hbm, ⟨27, _⟩ => ⟨S_, .i32⟩
  | .hbm, ⟨28, _⟩ => ⟨S150000, .i32⟩
  | .hbm, ⟨29, _⟩ => ⟨S150000, .i32⟩
  | .hbm, ⟨30, _⟩ => ⟨S150000, .i32⟩
  | .hbm, ⟨31, _⟩ => ⟨S_, .i32⟩
  | .hbm, ⟨32, _⟩ => ⟨S150000, .i32⟩
  | .hbm, ⟨33, _⟩ => ⟨S150000, .i1⟩
  | .hbm, ⟨34, _⟩ => ⟨S_, .i32⟩
  | .hbm, ⟨35, _⟩ => ⟨S150000, .i32⟩
  | .hbm, ⟨36, _⟩ => ⟨S150000, .i32⟩
  | .hbm, ⟨37, _⟩ => ⟨S150000, .i32⟩
  | .hbm, ⟨38, _⟩ => ⟨S150000x1, .i32⟩
  | .hbm, ⟨39, _⟩ => ⟨S150000x1, .i32⟩
  | .hbm, ⟨40, _⟩ => ⟨S150000x2, .i32⟩
  | .hbm, ⟨41, _⟩ => ⟨S150000, .f32⟩
  | .hbm, ⟨42, _⟩ => ⟨S_, .f32⟩
  | .hbm, ⟨43, _⟩ => ⟨S150000, .f32⟩
  | .hbm, ⟨44, _⟩ => ⟨S150000, .i1⟩
  | .hbm, ⟨45, _⟩ => ⟨S_, .f32⟩
  | .hbm, ⟨46, _⟩ => ⟨S_, .f32⟩
  | .hbm, ⟨47, _⟩ => ⟨S150000, .f32⟩
  | .hbm, ⟨48, _⟩ => ⟨S150000, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S31, .f32⟩
  | .hbm, ⟨57, _⟩ => ⟨S_, .f32⟩
  | .hbm, ⟨58, _⟩ => ⟨S31, .f32⟩
  | .hbm, ⟨59, _⟩ => ⟨S31, .f32⟩
  | .hbm, ⟨60, _⟩ => ⟨S1, .f32⟩
  | .hbm, ⟨61, _⟩ => ⟨S_, .f32⟩
  | .hbm, ⟨62, _⟩ => ⟨S31, .f32⟩
  | .hbm, ⟨63, _⟩ => ⟨S31, .f32⟩
  | .hbm, ⟨64, _⟩ => ⟨S31, .f32⟩
  | .hbm, ⟨65, _⟩ => ⟨S31, .f32⟩
  | .hbm, ⟨66, _⟩ => ⟨S1, .f32⟩
  | .hbm, ⟨67, _⟩ => ⟨S31, .f32⟩
  | .hbm, ⟨68, _⟩ => ⟨S31, .f32⟩
  | .hbm, ⟨69, _⟩ => ⟨S31, .f32⟩
  | .hbm, ⟨70, _⟩ => ⟨S1, .f32⟩
  | .hbm, ⟨71, _⟩ => ⟨S32, .f32⟩
  | .hbm, ⟨72, _⟩ => ⟨S150000x1, .f32⟩
  | .hbm, ⟨73, _⟩ => ⟨S1x32, .f32⟩
  | .hbm, ⟨74, _⟩ => ⟨S150000x32, .f32⟩
  | .hbm, ⟨75, _⟩ => ⟨S150000x32, .f32⟩
  | .hbm, ⟨76, _⟩ => ⟨S150000x32, .f32⟩
  | .hbm, ⟨77, _⟩ => ⟨S150000x32, .f32⟩
  | .hbm, ⟨78, _⟩ => ⟨S150000x32, .f32⟩
  | .hbm, ⟨79, _⟩ => ⟨S_, .f32⟩
  | .hbm, ⟨80, _⟩ => ⟨S150000x32, .f32⟩
  | .hbm, ⟨81, _⟩ => ⟨S150000x32, .f32⟩
  | .hbm, ⟨82, _⟩ => ⟨S150000x32, .f32⟩
  | .hbm, ⟨83, _⟩ => ⟨S150000x1, .i1⟩
  | .hbm, ⟨84, _⟩ => ⟨S150000x1, .f32⟩
  | .hbm, ⟨85, _⟩ => ⟨S150000x32, .f32⟩
  | .hbm, ⟨86, _⟩ => ⟨S150000x32, .f32⟩
  | _, _ => ⟨S5000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_values : Ref sig .tc := ⟨.hbm, 14, rfl⟩
abbrev main_indices : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_v35 : Ref sig .tc := ⟨.hbm, 48, rfl⟩
abbrev main_cst_6 : Ref sig .tc := ⟨.hbm, 49, rfl⟩
abbrev main_cst_7 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_cst : Ref sig .tc := ⟨.hbm, 54, rfl⟩
abbrev main_call1_v3 : Ref sig .tc := ⟨.hbm, 55, rfl⟩
abbrev main_call1_v4 : Ref sig .tc := ⟨.hbm, 56, rfl⟩
abbrev main_call1_cst_0 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_v15 : Ref sig .tc := ⟨.hbm, 69, rfl⟩
abbrev main_call1_v16 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_8 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩

abbrev nD : Nat := 1
abbrev τ : Topo := Topo.v7x

variable {F : FTy → Type} [FloatOps F]
-- ==== Proof.Vocab.lean ====
module

public import proofs.«01_k».proof.Proof.Gen.KernelIdeal.Frame

@[expose] public section

noncomputable section

/-! # The kernel body in a uniform vocabulary

The body of the kernel at one grid point: eight vectors (four per lane, a distance and a column number each) are
set up, sorted lane by lane, and then popped thirty times.  Every round of the body is the same function `St.pop`
of those eight vectors, so the blocks the body leaves are stated over the iterates `stAt k`. -/

namespace Cert.KernelIdeal.Body

open Idealize.ShloMosaic Cert.KernelIdeal.Gen

variable {F : FTy → Type} [FloatOps F] [Named F]

/-- The eight vectors carried by the rounds: for each row and lane, four distances and their columns. -/
structure St (F : FTy → Type) where
  v0 : FVec F S512x1280 .f32
  v1 : FVec F S512x1280 .f32
  v2 : FVec F S512x1280 .f32
  v3 : FVec F S512x1280 .f32
  i0 : IVec S512x1280 32
  i1 : IVec S512x1280 32
  i2 : IVec S512x1280 32
  i3 : IVec S512x1280 32

/-- The least head of each row. -/
def St.low (s : St F) : FVec F S512x1 .f32 :=
  shapeCast S512x1 (multiReduction .minimumf [1] S512 s.v0 0x7F800000#32 reduces_S512x1280_S512 (.inl rfl) rfl) shapeCasts_S512_S512x1

/-- The least column among the heads that attain the least head. -/
def St.arg (s : St F) : IVec S512x1 32 :=
  shapeCast S512x1 (multiReductionI .minsi [1] S512
    (select (cmpf .oeq s.v0 (broadcastTo S512x1280 s.low broadcasts_S512x1_S512x1280)) s.i0 (broadcast S512x1280 5120#32))
    2147483647#32 reduces_S512x1280_S512 rfl) shapeCasts_S512_S512x1

/-- The lane whose head is the chosen column. -/
def St.hit (s : St F) : IVec S512x1280 1 :=
  cmpi .eq s.i0 (broadcastTo S512x1280 s.arg broadcasts_S512x1_S512x1280)

/-- One round: the chosen lane is shifted by one, infinity entering at its end. -/
def St.pop (s : St F) : St F where
  v0 := select s.hit s.v1 s.v0
  v1 := select s.hit s.v2 s.v1
  v2 := select s.hit s.v3 s.v2
  v3 := select s.hit (broadcast S512x1280 (Scalar.ofBits .f32 0x7F800000#32)) s.v3
  i0 := select s.hit s.i1 s.i0
  i1 := select s.hit s.i2 s.i1
  i2 := select s.hit s.i3 s.i2
  i3 := s.i3

/-- The centres of the radial functions: two plus the lane number times the step. -/
def centres : FVec F S1x32 .f32 :=
  addf (broadcast S1x32 (Scalar.ofBits .f32 0x40000000#32))
    (mulf (sitofp .f32 (iota .tc S1x32 32 [1] iota_S1x32_d1_w32)) (broadcast S1x32 (Named.named κ "rbf_step" 0x3F25294A#32)))

/-- Whether the least head is within the cutoff. -/
def St.within (s : St F) : IVec S512x1 1 :=
  cmpf .ole s.low (broadcast S512x1 (Scalar.ofBits .f32 0x41B00000#32))

/-- The radial functions of the least head, zero beyond the cutoff. -/
def St.radial (s : St F) : FVec F S512x1x32 .f32 :=
  shapeCast S512x1x32
    (mulf
      (exp (mulf
        (subf (broadcast S512x32 (Scalar.ofBits .f32 0x00000000#32))
          (mulf
            (subf (broadcastTo S512x32 (select s.within s.low (broadcast S512x1 (Scalar.ofBits .f32 0x00000000#32))) broadcasts_S512x1_S512x32)
              (broadcastTo S512x32 centres broadcasts_S1x32_S512x32))
            (subf (broadcastTo S512x32 (select s.within s.low (broadcast S512x1 (Scalar.ofBits .f32 0x00000000#32))) broadcasts_S512x1_S512x32)
              (broadcastTo S512x32 centres broadcasts_S1x32_S512x32))))
        (broadcast S512x32 (Named.named κ "rbf_scale" 0x3FA3D70A#32))))
      (broadcastTo S512x32 (sitofp .f32 (extui 32 s.within natLt_1_32)) broadcasts_S512x1_S512x32))
    shapeCasts_S512x32_S512x1x32

/-- The squared distance between each row's point and the points of a run of 1280 columns starting at `o`. -/
def squared (v0 : FVec F S512x128 .f32) (v2 : FVec F S8x5120 .f32) (o : ℕ)
    (h0 : S8x5120.Slices ![0, o] S1x1280) (h1 : S8x5120.Slices ![1, o] S1x1280) (h2 : S8x5120.Slices ![2, o] S1x1280) :
    FVec F S512x1280 .f32 :=
  addf (addf
    (mulf
      (subf (broadcastTo S512x1280 (extractStridedSlice S512x1 ![0, 0] v0 slices_S512x128_o0_0_S512x1) broadcasts_S512x1_S512x1280)
        (broadcastTo S512x1280 (extractStridedSlice S1x1280 ![0, o] v2 h0) broadcasts_S1x1280_S512x1280))
      (subf (broadcastTo S512x1280 (extractStridedSlice S512x1 ![0, 0] v0 slices_S512x128_o0_0_S512x1) broadcasts_S512x1_S512x1280)
        (broadcastTo S512x1280 (extractStridedSlice S1x1280 ![0, o] v2 h0) broadcasts_S1x1280_S512x1280)))
    (mulf
      (subf (broadcastTo S512x1280 (extractStridedSlice S512x1 ![0, 1] v0 slices_S512x128_o0_1_S512x1) broadcasts_S512x1_S512x1280)
        (broadcastTo S512x1280 (extractStridedSlice S1x1280 ![1, o] v2 h1) broadcasts_S1x1280_S512x1280))
      (subf (broadcastTo S512x1280 (extractStridedSlice S512x1 ![0, 1] v0 slices_S512x128_o0_1_S512x1) broadcasts_S512x1_S512x1280)
        (broadcastTo S512x1280 (extractStridedSlice S1x1280 ![1, o] v2 h1) broadcasts_S1x1280_S512x1280))))
    (mulf
      (subf (broadcastTo S512x1280 (extractStridedSlice S512x1 ![0, 2] v0 slices_S512x128_o0_2_S512x1) broadcasts_S512x1_S512x1280)
        (broadcastTo S512x1280 (extractStridedSlice S1x1280 ![2, o] v2 h2) broadcasts_S1x1280_S512x1280))
      (subf (broadcastTo S512x1280 (extractStridedSlice S512x1 ![0, 2] v0 slices_S512x128_o0_2_S512x1) broadcasts_S512x1_S512x1280)
        (broadcastTo S512x1280 (extractStridedSlice S1x1280 ![2, o] v2 h2) broadcasts_S1x1280_S512x1280)))

/-- The root of the squared distance, floored. -/
def rooted (d : FVec F S512x1280 .f32) : FVec F S512x1280 .f32 :=
  sqrt (maximumf d (broadcast S512x1280 (Scalar.ofBits .f32 0x2B8CBCCC#32)))

/-- The column held by lane `j` at depth `q`: four times `j` plus `q`. -/
def column (q : BitVec 32) : IVec S512x1280 32 :=
  addi (muli (iota .tc S512x1280 32 [1] iota_S512x1280_d1_w32) (broadcast S512x1280 4#32)) (broadcast S512x1280 q)

/-- Whether the pair `(v, i)` comes after the pair `(w, j)`. -/
def after (v : FVec F S512x1280 .f32) (i : IVec S512x1280 32) (w : FVec F S512x1280 .f32) (j : IVec S512x1280 32) :
    IVec S512x1280 1 :=
  ori (cmpf .ogt v w) (andi (cmpf .oeq v w) (cmpi .sgt i j))

/-- Depths 0 and 1 put in order. -/
def St.swap01 (s : St F) : St F :=
  { s with
    v0 := select (after s.v0 s.i0 s.v1 s.i1) s.v1 s.v0
    i0 := select (after s.v0 s.i0 s.v1 s.i1) s.i1 s.i0
    v1 := select (after s.v0 s.i0 s.v1 s.i1) s.v0 s.v1
    i1 := select (after s.v0 s.i0 s.v1 s.i1) s.i0 s.i1 }

/-- Depths 2 and 3 put in order. -/
def St.swap23 (s : St F) : St F :=
  { s with
    v2 := select (after s.v2 s.i2 s.v3 s.i3) s.v3 s.v2
    i2 := select (after s.v2 s.i2 s.v3 s.i3) s.i3 s.i2
    v3 := select (after s.v2 s.i2 s.v3 s.i3) s.v2 s.v3
    i3 := select (after s.v2 s.i2 s.v3 s.i3) s.i2 s.i3 }

/-- Depths 0 and 2 put in order. -/
def St.swap02 (s : St F) : St F :=
  { s with
    v0 := select (after s.v0 s.i0 s.v2 s.i2) s.v2 s.v0
    i0 := select (after s.v0 s.i0 s.v2 s.i2) s.i2 s.i0
    v2 := select (after s.v0 s.i0 s.v2 s.i2) s.v0 s.v2
    i2 := select (after s.v0 s.i0 s.v2 s.i2) s.i0 s.i2 }

/-- Depths 1 and 3 put in order. -/
def St.swap13 (s : St F) : St F :=
  { s with
    v1 := select (after s.v1 s.i1 s.v3 s.i3) s.v3 s.v1
    i1 := select (after s.v1 s.i1 s.v3 s.i3) s.i3 s.i1
    v3 := select (after s.v1 s.i1 s.v3 s.i3) s.v1 s.v3
    i3 := select (after s.v1 s.i1 s.v3 s.i3) s.i1 s.i3 }

/-- Depths 1 and 2 put in order. -/
def St.swap12 (s : St F) : St F :=
  { s with
    v1 := select (after s.v1 s.i1 s.v2 s.i2) s.v2 s.v1
    i1 := select (after s.v1 s.i1 s.v2 s.i2) s.i2 s.i1
    v2 := select (after s.v1 s.i1 s.v2 s.i2) s.v1 s.v2
    i2 := select (after s.v1 s.i1 s.v2 s.i2) s.i1 s.i2 }

/-- The distances and columns before the lanes are sorted. -/
def raw (x0 : Vec F S512x128 .f32) (x1 : Vec F S8x5120 .f32) : St F where
  v0 := rooted (squared x0 x1 0 slices_S8x5120_o0_0_S1x1280 slices_S8x5120_o1_0_S1x1280 slices_S8x5120_o2_0_S1x1280)
  v1 := rooted (squared x0 x1 1280 slices_S8x5120_o0_1280_S1x1280 slices_S8x5120_o1_1280_S1x1280 slices_S8x5120_o2_1280_S1x1280)
  v2 := rooted (squared x0 x1 2560 slices_S8x5120_o0_2560_S1x1280 slices_S8x5120_o1_2560_S1x1280 slices_S8x5120_o2_2560_S1x1280)
  v3 := rooted (squared x0 x1 3840 slices_S8x5120_o0_3840_S1x1280 slices_S8x5120_o1_3840_S1x1280 slices_S8x5120_o2_3840_S1x1280)
  i0 := column 0#32
  i1 := column 1#32
  i2 := column 2#32
  i3 := column 3#32

/-- Every lane sorted by five exchanges. -/
def sorted (x0 : Vec F S512x128 .f32) (x1 : Vec F S8x5120 .f32) : St F :=
  (raw x0 x1).swap01.swap23.swap02.swap13.swap12

/-- The state after `k` rounds. -/
def stAt (x0 : Vec F S512x128 .f32) (x1 : Vec F S8x5120 .f32) : ℕ → St F
  | 0 => sorted x0 x1
  | k + 1 => (stAt x0 x1 k).pop

/-- The two operands as the body takes them: each read whole, a shape cast to its own shape around it. -/
def rowsIn (x0 : Vec F S512x128 .f32) : FVec F S512x128 .f32 := shapeCast S512x128 x0 shapeCasts_S512x128_S512x128

@[inherit_doc rowsIn]
def colsIn (x1 : Vec F S8x5120 .f32) : FVec F S8x5120 .f32 := shapeCast S8x5120 x1 shapeCasts_S8x5120_S8x5120

end Cert.KernelIdeal.Body

end
-- ==== Proof.Pieces.lean ====
module

public import proofs.«01_k».proof.Proof.Vocab

@[expose] public section

set_option maxRecDepth 16384

noncomputable section

/-! # The blocks the body leaves, over the uniform vocabulary -/

namespace Cert.KernelIdeal.Body

open Idealize.ShloMosaic Idealize.ShloMosaic.Tactic Cert.KernelIdeal.Gen

variable {F : FTy → Type} [FloatOps F] [Named F]

/-- The stores into the block of columns, last first: column `k` holds what round `k + 1` chose, over zeros. -/
def idxPieces (y0 : Vec F S512x128 .f32) (y1 : Vec F S8x5120 .f32) : (n : ℕ) → n ≤ 30 → List (View.Piece (Elt F) S512x32 .i32)
  | 0, _ => [⟨Rect.unit (s := S512x32) ![0, 0] S512x32.size inb_S512x32_S512x32_0_0, broadcast S512x32 0#32⟩]
  | n + 1, h => ⟨Rect.unit (s := S512x32) ![0, n] S512x1.size (by intro a; fin_cases a <;> simp <;> omega), (stAt y0 y1 (n + 1)).arg⟩
      :: idxPieces y0 y1 n (by omega)

/-- The stores into the block of radial functions, last first: slab `k` holds those of round `k + 1`. -/
def rbfPieces (y0 : Vec F S512x128 .f32) (y1 : Vec F S8x5120 .f32) : (n : ℕ) → n ≤ 30 → List (View.Piece (Elt F) S512x30x32 .f32)
  | 0, _ => []
  | n + 1, h => ⟨Rect.unit (s := S512x30x32) ![0, n, 0] S512x1x32.size (by intro a; fin_cases a <;> simp <;> omega), (stAt y0 y1 (n + 1)).radial⟩
      :: rbfPieces y0 y1 n (by omega)

/-- What the run stores into the block of columns. -/
theorem run_idxPieces (c : Dev nD) (i : grid0.Coords) (arg1 : Memref sig .tc .vmem S512x128 .f32) (harg1 : arg1.IsWhole) (arg2 : Memref sig .tc .vmem S8x5120 .f32) (harg2 : arg2.IsWhole) (arg3 : Memref sig .tc .vmem S512x32 .i32) (harg3 : arg3.IsWhole) (arg4 : Memref sig .tc .vmem S512x30x32 .f32) (harg4 : arg4.IsWhole) (arg5 : Memref sig .tc .vmem S8x128 .f32) (harg5 : arg5.IsWhole)
    (x0 : Vec F S512x128 .f32) (x1 : Vec F S8x5120 .f32) :
    (kernelRun0_A c i arg1 harg1 arg2 harg2 arg3 harg3 arg4 harg4 arg5 harg5 x0 x1).1
      = idxPieces
          (rowsIn (View.readAt (Elt F) arg1.view (Rect.unit ![0, 0] S512x128.size inb_S512x128_S512x128_0_0).toLoadRect (harg1.unread x0)))
          (colsIn (View.readAt (Elt F) arg2.view (Rect.unit ![0, 0] S8x5120.size inb_S8x5120_S8x5120_0_0).toLoadRect (harg2.unread x1)))
          30 (le_refl _) := by
  sl_kernel_rfl

/-- What the run stores into the block of radial functions. -/
theorem run_rbfPieces (c : Dev nD) (i : grid0.Coords) (arg1 : Memref sig .tc .vmem S512x128 .f32) (harg1 : arg1.IsWhole) (arg2 : Memref sig .tc .vmem S8x5120 .f32) (harg2 : arg2.IsWhole) (arg3 : Memref sig .tc .vmem S512x32 .i32) (harg3 : arg3.IsWhole) (arg4 : Memref sig .tc .vmem S512x30x32 .f32) (harg4 : arg4.IsWhole) (arg5 : Memref sig .tc .vmem S8x128 .f32) (harg5 : arg5.IsWhole)
    (x0 : Vec F S512x128 .f32) (x1 : Vec F S8x5120 .f32) :
    (kernelRun0_A c i arg1 harg1 arg2 harg2 arg3 harg3 arg4 harg4 arg5 harg5 x0 x1).2.1
      = rbfPieces
          (rowsIn (View.readAt (Elt F) arg1.view (Rect.unit ![0, 0] S512x128.size inb_S512x128_S512x128_0_0).toLoadRect (harg1.unread x0)))
          (colsIn (View.readAt (Elt F) arg2.view (Rect.unit ![0, 0] S8x5120.size inb_S8x5120_S8x5120_0_0).toLoadRect (harg2.unread x1)))
          30 (le_refl _) := by
  sl_kernel_rfl

end Cert.KernelIdeal.Body

end
-- ==== Proof.Outs.lean ====
module
public import proofs.«01_k».proof.Proof.Pieces
public import Idealize.ShloMosaic.Lib.WritesUnit
public import Idealize.ShloMosaic.Lib.Pointwise
@[expose] public section
set_option maxRecDepth 16384

/-! # What the body leaves in its two blocks, at an index -/

noncomputable section
namespace Cert.KernelIdeal.Body
open Idealize.ShloMosaic Idealize.ShloMosaic.Pipeline Idealize.SL.Sem Cert.KernelIdeal.Gen

variable {F : FTy → Type} [FloatOps F] [Named F]

/-- The first `n` stores into the block of columns, read at an index below `n`. -/
theorem read_idxPieces {κ : Kind} {sp : Space} (v : View sig κ sp S512x32 .i32) (f : v.ty.Contents (Elt F))
    (y0 : Vec F S512x128 .f32) (y1 : Vec F S8x5120 .f32) (r : Fin 512) :
    ∀ (n : ℕ) (hn : n ≤ 30) (k : Fin 32), k.val < n →
      v.read (Elt F) (v.writes (Elt F) f (idxPieces y0 y1 n hn)) (ix2 r k) = (stAt y0 y1 (k.val + 1)).arg (ix2 r 0)
  | 0, _, k, hk => absurd hk (Nat.not_lt_zero _)
  | n + 1, hn, k, hk => by
    rcases Nat.lt_succ_iff_lt_or_eq.mp hk with h | h
    · refine Eq.trans (View.read_writes_cons_unit_of_not_mem v f _ _ _ (ix2 r k) rfl (1 : Fin 2) (Or.inl h)) ?_
      exact read_idxPieces v f y0 y1 r n (by omega) k h
    · refine Eq.trans (View.read_writes_cons_unit_of_mem v f _ _ _ (ix2 r k) (ix2 r 0) rfl ?_) ?_
      · intro a
        match a with
        | ⟨0, _⟩ => exact (Nat.zero_add _).symm
        | ⟨1, _⟩ => exact h
      · rw [h]

/-- The first `n` stores into the block of radial functions, read at an index below `n`. -/
theorem read_rbfPieces {κ : Kind} {sp : Space} (v : View sig κ sp S512x30x32 .f32) (f : v.ty.Contents (Elt F))
    (y0 : Vec F S512x128 .f32) (y1 : Vec F S8x5120 .f32) (r : Fin 512) (l : Fin 32) :
    ∀ (n : ℕ) (hn : n ≤ 30) (k : Fin 30), k.val < n →
      v.read (Elt F) (v.writes (Elt F) f (rbfPieces y0 y1 n hn)) (ix3 r k l) = (stAt y0 y1 (k.val + 1)).radial (ix3 r 0 l)
  | 0, _, k, hk => absurd hk (Nat.not_lt_zero _)
  | n + 1, hn, k, hk => by
    rcases Nat.lt_succ_iff_lt_or_eq.mp hk with h | h
    · refine Eq.trans (View.read_writes_cons_unit_of_not_mem v f _ _ _ (ix3 r k l) rfl (1 : Fin 3) (Or.inl h)) ?_
      exact read_rbfPieces v f y0 y1 r l n (by omega) k h
    · refine Eq.trans (View.read_writes_cons_unit_of_mem v f _ _ _ (ix3 r k l) (ix3 r 0 l) rfl ?_) ?_
      · intro a
        match a with
        | ⟨0, _⟩ => exact (Nat.zero_add _).symm
        | ⟨1, _⟩ => exact h
        | ⟨2, _⟩ => exact (Nat.zero_add _).symm
      · rw [h]

/-- The rows the body reads are the block it is given. -/
theorem rowsIn_read (arg1 : Memref sig .tc .vmem S512x128 .f32) (harg1 : arg1.IsWhole) (x0 : Vec F S512x128 .f32) :
    rowsIn (View.readAt (Elt F) arg1.view (Rect.unit ![0, 0] S512x128.size inb_S512x128_S512x128_0_0).toLoadRect (harg1.unread x0)) = x0 := by
  rw [View.readAt_eq_ld, harg1.read_unread]
  refine Eq.trans (congrArg rowsIn (View.ld_unit_zero (off := ![0, 0]) (by funext a; fin_cases a <;> rfl) _ x0)) ?_
  unfold rowsIn
  exact shapeCast_self _ _

/-- The columns the body reads are the block it is given. -/
theorem colsIn_read (arg2 : Memref sig .tc .vmem S8x5120 .f32) (harg2 : arg2.IsWhole) (x1 : Vec F S8x5120 .f32) :
    colsIn (View.readAt (Elt F) arg2.view (Rect.unit ![0, 0] S8x5120.size inb_S8x5120_S8x5120_0_0).toLoadRect (harg2.unread x1)) = x1 := by
  rw [View.readAt_eq_ld, harg2.read_unread]
  refine Eq.trans (congrArg colsIn (View.ld_unit_zero (off := ![0, 0]) (by funext a; fin_cases a <;> rfl) _ x1)) ?_
  unfold colsIn
  exact shapeCast_self _ _

variable (m : (ℓ : Loc nD τ sig) → Buf (Elt F) ℓ)

/-- The block of columns after point `t`. -/
theorem outs_idx (c : Dev nD) (t : Fin cfg0.N) (r : Fin 512) (k : Fin 32) (hk : k.val < 30) :
    (outsAt0 m c t).1 (ix2 r k) = (stAt (iblk m c 0 t) (iblk m c 1 t) (k.val + 1)).arg (ix2 r 0) := by
  dsimp only [outsAt0]
  unfold out0_A_2
  rw [run_idxPieces, rowsIn_read, colsIn_read]
  exact read_idxPieces _ _ _ _ r 30 (le_refl _) k hk

/-- The block of radial functions after point `t`. -/
theorem outs_rbf (c : Dev nD) (t : Fin cfg0.N) (r : Fin 512) (k : Fin 30) (l : Fin 32) :
    (outsAt0 m c t).2 (ix3 r k l) = (stAt (iblk m c 0 t) (iblk m c 1 t) (k.val + 1)).radial (ix3 r 0 l) := by
  dsimp only [outsAt0]
  unfold out0_A_3
  rw [run_rbfPieces, rowsIn_read, colsIn_read]
  exact read_rbfPieces _ _ _ _ r l 30 (le_refl _) k k.isLt

end Cert.KernelIdeal.Body
end
-- ==== Proof.Rank.lean ====
module
public import Mathlib.Data.EReal.Basic
public import Mathlib.Data.Finset.Card
public import Mathlib.Data.Fintype.Card
public import Mathlib.Data.Fintype.EquivFin
public import Mathlib.Tactic.SplitIfs
public import Mathlib.Tactic.Tauto
@[expose] public section

/-! # The order of one row

The elements of a row are ordered by their distance, and equal distances by their place. The place of
an element in this order is its rank. -/

noncomputable section
namespace Cert.Row

variable {n : ℕ} (D : Fin n → EReal)

/-- `a` comes before `b`: it is nearer, or as near and of a smaller place. -/
def Before (a b : Fin n) : Prop := D a < D b ∨ (D a = D b ∧ a < b)

/-- Nothing comes before itself. -/
theorem Before.irrefl (a : Fin n) : ¬ Before D a a := by
  rintro (h | ⟨_, h⟩)
  · exact lt_irrefl _ h
  · exact lt_irrefl _ h

variable {D} in
/-- Coming before is transitive. -/
theorem Before.trans {a b c : Fin n} (h : Before D a b) (h' : Before D b c) : Before D a c := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

/-- Two different elements are in one order or the other. -/
theorem Before.total {a b : Fin n} (h : a ≠ b) : Before D a b ∨ Before D b a := by
  rcases lt_trichotomy (D a) (D b) with h1 | h1 | h1
  · exact Or.inl (Or.inl h1)
  · rcases lt_or_gt_of_ne h with h2 | h2
    · exact Or.inl (Or.inr ⟨h1, h2⟩)
    · exact Or.inr (Or.inr ⟨h1.symm, h2⟩)
  · exact Or.inr (Or.inl h1)

open Classical in
/-- The rank of an element: how many come before it. -/
def rank (c : Fin n) : ℕ := (Finset.univ.filter fun a => Before D a c).card

variable {D} in
/-- An earlier element has the smaller rank. -/
theorem rank_lt {a b : Fin n} (h : Before D a b) : rank D a < rank D b := by
  classical
  unfold rank
  apply Finset.card_lt_card
  refine Finset.ssubset_iff_of_subset (fun x hx => ?_) |>.mpr ⟨a, ?_, ?_⟩
  · simp only [Finset.mem_filter, Finset.mem_univ, true_and] at hx ⊢
    exact hx.trans h
  · simpa using h
  · simpa using Before.irrefl D a

/-- The ranks are in the order of the elements. -/
theorem rank_lt_iff {a b : Fin n} : rank D a < rank D b ↔ Before D a b := by
  refine ⟨fun h => ?_, rank_lt⟩
  by_cases e : a = b
  · subst e; exact absurd h (lt_irrefl _)
  · rcases Before.total D e with h' | h'
    · exact h'
    · exact absurd (rank_lt h') (by omega)

/-- Different elements have different ranks. -/
theorem rank_inj {a b : Fin n} (h : rank D a = rank D b) : a = b := by
  by_contra e
  rcases Before.total D e with h' | h' <;> have := rank_lt h' <;> omega

/-- A rank is less than the number of elements. -/
theorem rank_lt_card (c : Fin n) : rank D c < n := by
  classical
  unfold rank
  refine lt_of_lt_of_eq (Finset.card_lt_card (t := Finset.univ) ?_) (Finset.card_fin n)
  refine Finset.ssubset_iff_of_subset (Finset.subset_univ _) |>.mpr ⟨c, Finset.mem_univ _, ?_⟩
  simpa using Before.irrefl D c

/-- Every rank below the number of elements is the rank of an element. -/
theorem exists_rank {k : ℕ} (h : k < n) : ∃ c, rank D c = k := by
  have hi : Function.Injective fun c : Fin n => (⟨rank D c, rank_lt_card D c⟩ : Fin n) :=
    fun a b e => rank_inj D (Fin.mk.inj_iff.mp e)
  obtain ⟨c, hc⟩ := (Finite.injective_iff_surjective.mp hi) ⟨k, h⟩
  exact ⟨c, Fin.mk.inj_iff.mp hc⟩

/-- The element of a rank. -/
def nth (k : Fin n) : Fin n := (exists_rank D k.isLt).choose

/-- The rank of the element of a rank. -/
theorem rank_nth (k : Fin n) : rank D (nth D k) = k := (exists_rank D k.isLt).choose_spec

/-- A lower rank is not farther. -/
theorem le_of_rank {a b : Fin n} (h : rank D a ≤ rank D b) : D a ≤ D b := by
  rcases h.lt_or_eq with h | h
  · rcases (rank_lt_iff D).mp h with h | ⟨h, _⟩
    · exact h.le
    · exact h.le
  · rw [rank_inj D h]

/-- A lower rank at the same distance has the smaller place. -/
theorem place_of_rank {a b : Fin n} (h : rank D a ≤ rank D b) (e : D a = D b) : a ≤ b := by
  rcases h.lt_or_eq with h | h
  · rcases (rank_lt_iff D).mp h with h | ⟨_, h⟩
    · exact absurd e h.ne
    · exact h.le
  · rw [rank_inj D h]

/-- Elements farther than all the first `m` do not change a rank among the first `m`. -/
theorem rank_castLE {m : ℕ} (h : m ≤ n)
    (far : ∀ (c : Fin m) (p : Fin n), m ≤ p.val → D (c.castLE h) < D p) (c : Fin m) :
    rank D (c.castLE h) = rank (fun a : Fin m => D (a.castLE h)) c := by
  classical
  unfold rank
  rw [← Finset.card_map (Fin.castLEEmb h)]
  congr 1
  ext a
  simp only [Finset.mem_filter, Finset.mem_univ, true_and, Finset.mem_map, Fin.castLEEmb_apply]
  constructor
  · intro ha
    have hm : a.val < m := by
      by_contra hm
      have hf := far c a (by omega)
      rcases ha with h1 | ⟨h1, _⟩
      · exact absurd (h1.trans hf) (lt_irrefl _)
      · exact absurd h1 hf.ne'
    exact ⟨⟨a.val, hm⟩, ha, rfl⟩
  · rintro ⟨b, hb, rfl⟩
    exact hb

/-! ## A network of five exchanges -/

/-- The earlier of two. -/
def lo (ρ : Fin n → ℕ) (a b : Fin n) : Fin n := if ρ b < ρ a then b else a
/-- The later of two. -/
def hi (ρ : Fin n → ℕ) (a b : Fin n) : Fin n := if ρ b < ρ a then a else b

/-- The rank of the earlier of two is the lesser. -/
theorem rank_lo (ρ : Fin n → ℕ) (a b : Fin n) : ρ (lo ρ a b) = min (ρ a) (ρ b) := by
  unfold lo
  split_ifs with h
  · omega
  · omega

/-- The rank of the later of two is the greater. -/
theorem rank_hi (ρ : Fin n → ℕ) (a b : Fin n) : ρ (hi ρ a b) = max (ρ a) (ρ b) := by
  unfold hi
  split_ifs with h
  · omega
  · omega

/-- An exchange keeps the pair. -/
theorem mem_exchange (ρ : Fin n → ℕ) (a b x : Fin n) :
    (x = lo ρ a b ∨ x = hi ρ a b) ↔ (x = a ∨ x = b) := by
  unfold lo hi
  split_ifs with h
  · exact or_comm
  · exact Iff.rfl

/-- Two pairs, one inside the other, as two pairs side by side. -/
theorem outer_inner (p q r s : Prop) : (p ∨ (q ∨ r) ∨ s) ↔ ((p ∨ r) ∨ (q ∨ s)) := by tauto

/-- Exchanges on (0,1), (2,3), (0,2), (1,3), (1,2) put four elements in order. -/
theorem network (ρ : Fin n → ℕ) (hρ : Function.Injective ρ) (a b c d : Fin n)
    (hab : a ≠ b) (hac : a ≠ c) (had : a ≠ d) (hbc : b ≠ c) (hbd : b ≠ d) (hcd : c ≠ d)
    {a1 b1 c1 d1 a2 b2 c2 d2 b3 c3 : Fin n} (ea1 : a1 = lo ρ a b) (eb1 : b1 = hi ρ a b)
    (ec1 : c1 = lo ρ c d) (ed1 : d1 = hi ρ c d) (ea2 : a2 = lo ρ a1 c1) (ec2 : c2 = hi ρ a1 c1)
    (eb2 : b2 = lo ρ b1 d1) (ed2 : d2 = hi ρ b1 d1) (eb3 : b3 = lo ρ b2 c2) (ec3 : c3 = hi ρ b2 c2) :
    (ρ a2 < ρ b3 ∧ ρ b3 < ρ c3 ∧ ρ c3 < ρ d2) ∧
      ∀ x, (x = a2 ∨ x = b3 ∨ x = c3 ∨ x = d2) ↔ (x = a ∨ x = b ∨ x = c ∨ x = d) := by
  have nab := hρ.ne hab
  have nac := hρ.ne hac
  have nad := hρ.ne had
  have nbc := hρ.ne hbc
  have nbd := hρ.ne hbd
  have ncd := hρ.ne hcd
  constructor
  · have r1 := rank_lo ρ a b
    have r2 := rank_hi ρ a b
    have r3 := rank_lo ρ c d
    have r4 := rank_hi ρ c d
    have r5 := rank_lo ρ a1 c1
    have r6 := rank_hi ρ a1 c1
    have r7 := rank_lo ρ b1 d1
    have r8 := rank_hi ρ b1 d1
    have r9 := rank_lo ρ b2 c2
    have r10 := rank_hi ρ b2 c2
    rw [← ea1] at r1; rw [← eb1] at r2; rw [← ec1] at r3; rw [← ed1] at r4; rw [← ea2] at r5
    rw [← ec2] at r6; rw [← eb2] at r7; rw [← ed2] at r8; rw [← eb3] at r9; rw [← ec3] at r10
    clear ea1 eb1 ec1 ed1 ea2 eb2 ec2 ed2 eb3 ec3
    have n1 : ρ a1 ≠ ρ c1 := by omega
    have n2 : ρ b1 ≠ ρ d1 := by omega
    have n3 : ρ b2 ≠ ρ c2 := by omega
    refine ⟨?_, ?_, ?_⟩
    · have : ρ a2 < ρ c2 := by omega
      have : ρ a2 < ρ b2 := by omega
      omega
    · omega
    · have : ρ b2 < ρ d2 := by omega
      have : ρ c2 < ρ d2 := by omega
      omega
  · intro x
    have m1 := mem_exchange ρ a b x
    have m2 := mem_exchange ρ c d x
    have m3 := mem_exchange ρ a1 c1 x
    have m4 := mem_exchange ρ b1 d1 x
    have m5 := mem_exchange ρ b2 c2 x
    rw [← ea1, ← eb1] at m1; rw [← ec1, ← ed1] at m2; rw [← ea2, ← ec2] at m3
    rw [← eb2, ← ed2] at m4; rw [← eb3, ← ec3] at m5
    calc (x = a2 ∨ x = b3 ∨ x = c3 ∨ x = d2) ↔ (x = a2 ∨ (x = b3 ∨ x = c3) ∨ x = d2) := by rw [or_assoc]
      _ ↔ (x = a2 ∨ (x = b2 ∨ x = c2) ∨ x = d2) := by rw [m5]
      _ ↔ ((x = a2 ∨ x = c2) ∨ (x = b2 ∨ x = d2)) := outer_inner _ _ _ _
      _ ↔ ((x = a1 ∨ x = c1) ∨ (x = b1 ∨ x = d1)) := by rw [m3, m4]
      _ ↔ ((x = a1 ∨ x = b1) ∨ (x = c1 ∨ x = d1)) := or_or_or_comm
      _ ↔ ((x = a ∨ x = b) ∨ (x = c ∨ x = d)) := by rw [m1, m2]
      _ ↔ (x = a ∨ x = b ∨ x = c ∨ x = d) := or_assoc

end Cert.Row
end
-- ==== Proof.Lanes.lean ====
module
public import proofs.«01_k».proof.Proof.Vocab
public import proofs.«01_k».proof.Proof.Rank
public import Idealize.ShloMosaic.Lib.Pointwise
public import Idealize.ShloMosaic.Lib.WordCmp
@[expose] public section
set_option maxRecDepth 16384

/-! # One row of the body's state, over the extended reals

At a row and a lane the state holds four elements, each by its distance and its column.  The five
exchanges sort every lane by rank, and each round takes the element whose rank is the round's number. -/

noncomputable section
namespace Cert.KernelIdeal.Body
open Idealize.ShloMosaic Cert.KernelIdeal.Gen Cert.Row

/-- The word of a column number. -/
def word (c : Fin 5120) : BitVec 32 := BitVec.ofNat 32 c.val

/-- A column's word, as an integer, is the column. -/
theorem word_toInt (c : Fin 5120) : (word c).toInt = c.val := by
  have h := c.isLt
  unfold word
  rw [BitVec.toInt_eq_toNat_of_lt (by rw [BitVec.toNat_ofNat]; omega), BitVec.toNat_ofNat]
  omega

/-- Different columns have different words. -/
theorem word_inj {c c' : Fin 5120} (h : word c = word c') : c = c' := by
  have := congrArg BitVec.toInt h
  rw [word_toInt, word_toInt] at this
  exact Fin.ext (by exact_mod_cast this)

/-- The least of a family under a `min` fold from the top, given where it is attained. -/
theorem fold_min_eq {n : ℕ} (f : Fin n → EReal) (j : Fin n) (h : ∀ i, f j ≤ f i) :
    Finset.fold min (Ideal.ofBits FTy.f32 2139095040#32) f Finset.univ = f j := by
  have e : Ideal.ofBits FTy.f32 2139095040#32 = (⊤ : EReal) := by
    simp [Ideal.ofBits, Ideal.ieee]
  rw [e]
  apply le_antisymm
  · exact (Finset.fold_min_le (f j)).mpr (Or.inr ⟨j, Finset.mem_univ _, le_rfl⟩)
  · exact (Finset.le_fold_min (f j)).mpr ⟨le_top, fun i _ => h i⟩

/-- The lesser of two words, as an integer. -/
theorem minsi_toInt (x y : BitVec 32) : (IntOp.minsi x y).toInt = min x.toInt y.toInt := by
  unfold IntOp.minsi
  rw [BitVec.slt_eq_decide]
  by_cases h : x.toInt < y.toInt
  · simp [h, h.le]
  · simp [h, not_lt.mp h]

/-- The least of a family of words under the signed fold, given where it is attained. -/
theorem fold_minsi_eq {n : ℕ} (f : Fin n → BitVec 32) (w : BitVec 32) (h : ∀ i, w.toInt ≤ (f i).toInt)
    (hw : ∃ i, f i = w) : Finset.fold IntOp.minsi (2147483647#32) f Finset.univ = w := by
  apply BitVec.eq_of_toInt_eq
  rw [← Finset.fold_hom (op' := min) (m := BitVec.toInt) (fun x y => minsi_toInt x y)]
  obtain ⟨i, hi⟩ := hw
  apply le_antisymm
  · exact (Finset.fold_min_le _).mpr (Or.inr ⟨i, Finset.mem_univ _, by simp [hi]⟩)
  · refine (Finset.le_fold_min _).mpr ⟨?_, fun i _ => h i⟩
    have := BitVec.toInt_lt (x := w)
    have e : (2147483647#32 : BitVec 32).toInt = 2147483647 := by decide
    rw [e]
    omega

variable (D : Fin 5120 → EReal)

/-- At row `r` and lane `j` the state holds the elements `a`, `b`, `c`, `d`, from the head down. -/
structure Holds (s : St Ideal) (r : Fin 512) (j : Fin 1280) (a b c d : Fin 5120) : Prop where
  v0 : s.v0 (ix2 r j) = D a
  v1 : s.v1 (ix2 r j) = D b
  v2 : s.v2 (ix2 r j) = D c
  v3 : s.v3 (ix2 r j) = D d
  i0 : s.i0 (ix2 r j) = word a
  i1 : s.i1 (ix2 r j) = word b
  i2 : s.i2 (ix2 r j) = word c
  i3 : s.i3 (ix2 r j) = word d

/-- The comparison of an exchange at an index. -/
theorem after_apply (v w : FVec Ideal S512x1280 .f32) (i k : IVec S512x1280 32) (r : Fin 512) (j : Fin 1280)
    (a b : Fin 5120) (hv : v (ix2 r j) = D a) (hw : w (ix2 r j) = D b) (hi : i (ix2 r j) = word a)
    (hk : k (ix2 r j) = word b) :
    after v i w k (ix2 r j) = BitVec.ofBool (decide (rank D b < rank D a)) := by
  pointwise [after]
  rw [hv, hw, hi, hk, WordCmp.cmpi_sgt_eq, word_toInt, word_toInt]
  simp only [rank_lt_iff, Before, IntOp.ori, IntOp.andi]
  by_cases h1 : D b < D a
  · simp [h1, h1.ne']
  · by_cases h2 : D a = D b
    · by_cases h3 : b < a
      · have : (b.val : ℤ) < a.val := by exact_mod_cast h3
        simp [h2, h3, this]
      · have : ¬ (b.val : ℤ) < a.val := by exact_mod_cast h3
        simp [h2, h3, this]
    · simp [h1, h2, Ne.symm h2]

/-- A selection by the comparison: the later-or-earlier element's distance. -/
theorem select_rank {α : Type} (f : Fin 5120 → α) (a b : Fin 5120) :
    Scalar.select (BitVec.ofBool (decide (rank D b < rank D a))) (f b) (f a) = f (lo (rank D) a b) ∧
      Scalar.select (BitVec.ofBool (decide (rank D b < rank D a))) (f a) (f b) = f (hi (rank D) a b) := by
  unfold lo hi
  rw [WordCmp.select_ofBool, WordCmp.select_ofBool]
  by_cases h : rank D b < rank D a <;> simp [h]

variable {D} {s : St Ideal} {r : Fin 512} {j : Fin 1280} {a b c d : Fin 5120}

/-- A selected vector read at an index. -/
theorem select_apply {α : Type} (p : IVec S512x1280 1) (x y : S512x1280.Idx → α) (r : Fin 512) (j : Fin 1280) :
    select p x y (ix2 r j) = Scalar.select (p (ix2 r j)) (x (ix2 r j)) (y (ix2 r j)) := rfl

/-- The exchange of depths 0 and 1. -/
theorem Holds.swap01 (h : Holds D s r j a b c d) :
    Holds D s.swap01 r j (lo (rank D) a b) (hi (rank D) a b) c d := by
  have e := after_apply D s.v0 s.v1 s.i0 s.i1 r j a b h.v0 h.v1 h.i0 h.i1
  constructor
  · simp only [St.swap01, select_apply, e, h.v0, h.v1, (select_rank D D a b).1]
  · simp only [St.swap01, select_apply, e, h.v0, h.v1, (select_rank D D a b).2]
  · exact h.v2
  · exact h.v3
  · simp only [St.swap01, select_apply, e, h.i0, h.i1, (select_rank D word a b).1]
  · simp only [St.swap01, select_apply, e, h.i0, h.i1, (select_rank D word a b).2]
  · exact h.i2
  · exact h.i3

/-- The exchange of depths 2 and 3. -/
theorem Holds.swap23 (h : Holds D s r j a b c d) :
    Holds D s.swap23 r j a b (lo (rank D) c d) (hi (rank D) c d) := by
  have e := after_apply D s.v2 s.v3 s.i2 s.i3 r j c d h.v2 h.v3 h.i2 h.i3
  constructor
  · exact h.v0
  · exact h.v1
  · simp only [St.swap23, select_apply, e, h.v2, h.v3, (select_rank D D c d).1]
  · simp only [St.swap23, select_apply, e, h.v2, h.v3, (select_rank D D c d).2]
  · exact h.i0
  · exact h.i1
  · simp only [St.swap23, select_apply, e, h.i2, h.i3, (select_rank D word c d).1]
  · simp only [St.swap23, select_apply, e, h.i2, h.i3, (select_rank D word c d).2]

/-- The exchange of depths 0 and 2. -/
theorem Holds.swap02 (h : Holds D s r j a b c d) :
    Holds D s.swap02 r j (lo (rank D) a c) b (hi (rank D) a c) d := by
  have e := after_apply D s.v0 s.v2 s.i0 s.i2 r j a c h.v0 h.v2 h.i0 h.i2
  constructor
  · simp only [St.swap02, select_apply, e, h.v0, h.v2, (select_rank D D a c).1]
  · exact h.v1
  · simp only [St.swap02, select_apply, e, h.v0, h.v2, (select_rank D D a c).2]
  · exact h.v3
  · simp only [St.swap02, select_apply, e, h.i0, h.i2, (select_rank D word a c).1]
  · exact h.i1
  · simp only [St.swap02, select_apply, e, h.i0, h.i2, (select_rank D word a c).2]
  · exact h.i3

/-- The exchange of depths 1 and 3. -/
theorem Holds.swap13 (h : Holds D s r j a b c d) :
    Holds D s.swap13 r j a (lo (rank D) b d) c (hi (rank D) b d) := by
  have e := after_apply D s.v1 s.v3 s.i1 s.i3 r j b d h.v1 h.v3 h.i1 h.i3
  constructor
  · exact h.v0
  · simp only [St.swap13, select_apply, e, h.v1, h.v3, (select_rank D D b d).1]
  · exact h.v2
  · simp only [St.swap13, select_apply, e, h.v1, h.v3, (select_rank D D b d).2]
  · exact h.i0
  · simp only [St.swap13, select_apply, e, h.i1, h.i3, (select_rank D word b d).1]
  · exact h.i2
  · simp only [St.swap13, select_apply, e, h.i1, h.i3, (select_rank D word b d).2]

/-- The exchange of depths 1 and 2. -/
theorem Holds.swap12 (h : Holds D s r j a b c d) :
    Holds D s.swap12 r j a (lo (rank D) b c) (hi (rank D) b c) d := by
  have e := after_apply D s.v1 s.v2 s.i1 s.i2 r j b c h.v1 h.v2 h.i1 h.i2
  constructor
  · exact h.v0
  · simp only [St.swap12, select_apply, e, h.v1, h.v2, (select_rank D D b c).1]
  · simp only [St.swap12, select_apply, e, h.v1, h.v2, (select_rank D D b c).2]
  · exact h.v3
  · exact h.i0
  · simp only [St.swap12, select_apply, e, h.i1, h.i2, (select_rank D word b c).1]
  · simp only [St.swap12, select_apply, e, h.i1, h.i2, (select_rank D word b c).2]
  · exact h.i3

/-- The distance of an element, or infinity for a place that is used up. -/
def valueOf (D : Fin 5120 → EReal) : Option (Fin 5120) → EReal
  | some c => D c
  | none => ⊤

/-- Lane `j` of row `r` before the round `k`: the lane's elements of rank at least `k`, in order of rank,
    then infinity; every column held is one of the lane. -/
def Lane (D : Fin 5120 → EReal) (s : St Ideal) (r : Fin 512) (k : ℕ) (j : Fin 1280) : Prop :=
  ∃ l : List (Fin 5120), l.Pairwise (fun a b => rank D a < rank D b) ∧ l.length ≤ 4 ∧
    (∀ c, c ∈ l ↔ c.val / 4 = j.val ∧ k ≤ rank D c) ∧
    (s.v0 (ix2 r j) = valueOf D l[0]? ∧ s.v1 (ix2 r j) = valueOf D l[1]? ∧
      s.v2 (ix2 r j) = valueOf D l[2]? ∧ s.v3 (ix2 r j) = valueOf D l[3]?) ∧
    ∃ c0 c1 c2 c3 : Fin 5120,
      (s.i0 (ix2 r j) = word c0 ∧ s.i1 (ix2 r j) = word c1 ∧ s.i2 (ix2 r j) = word c2 ∧ s.i3 (ix2 r j) = word c3) ∧
      (c0.val / 4 = j.val ∧ c1.val / 4 = j.val ∧ c2.val / 4 = j.val ∧ c3.val / 4 = j.val) ∧
      ((∀ c, l[0]? = some c → c = c0) ∧ (∀ c, l[1]? = some c → c = c1) ∧
        (∀ c, l[2]? = some c → c = c2) ∧ (∀ c, l[3]? = some c → c = c3))

/-- The lane after the sorting network. -/
theorem lane_sorted (h0 : a.val = 4 * j.val) (h1 : b.val = 4 * j.val + 1) (h2 : c.val = 4 * j.val + 2)
    (h3 : d.val = 4 * j.val + 3) (h : Holds D s r j a b c d) :
    Lane D (s.swap01.swap23.swap02.swap13.swap12) r 0 j := by
  have hs := h.swap01.swap23.swap02.swap13.swap12
  obtain ⟨⟨o1, o2, o3⟩, hm⟩ := network (rank D) (fun _ _ e => rank_inj D e) a b c d
    (fun e => by rw [e] at h0; omega) (fun e => by rw [e] at h0; omega) (fun e => by rw [e] at h0; omega)
    (fun e => by rw [e] at h1; omega) (fun e => by rw [e] at h1; omega) (fun e => by rw [e] at h2; omega)
    rfl rfl rfl rfl rfl rfl rfl rfl rfl rfl
  generalize lo (rank D) (lo (rank D) a b) (lo (rank D) c d) = e0 at *
  generalize hi (rank D) (lo (rank D) a b) (lo (rank D) c d) = f2 at *
  generalize lo (rank D) (hi (rank D) a b) (hi (rank D) c d) = f1 at *
  generalize hi (rank D) (hi (rank D) a b) (hi (rank D) c d) = e3 at *
  generalize lo (rank D) f1 f2 = e1 at *
  generalize hi (rank D) f1 f2 = e2 at *
  have hmem : ∀ x : Fin 5120, (x = e0 ∨ x = e1 ∨ x = e2 ∨ x = e3) ↔ x.val / 4 = j.val := by
    intro x
    rw [hm x, Fin.ext_iff, Fin.ext_iff, Fin.ext_iff, Fin.ext_iff, h0, h1, h2, h3]
    omega
  refine ⟨[e0, e1, e2, e3], ?_, le_refl _, fun x => ?_, ⟨hs.v0, hs.v1, hs.v2, hs.v3⟩,
    e0, e1, e2, e3, ⟨hs.i0, hs.i1, hs.i2, hs.i3⟩,
    ⟨(hmem e0).mp (by simp), (hmem e1).mp (by simp), (hmem e2).mp (by simp), (hmem e3).mp (by simp)⟩, ?_⟩
  · simp only [List.pairwise_cons, List.mem_cons, List.not_mem_nil, or_false, forall_eq_or_imp, forall_eq,
      IsEmpty.forall_iff, implies_true, List.Pairwise.nil, and_true]
    omega
  · rw [← hmem x]
    simp
  · simp [eq_comm]

end Cert.KernelIdeal.Body
end
-- ==== Proof.Rounds.lean ====
module
public import proofs.«01_k».proof.Proof.Lanes
@[expose] public section
set_option maxRecDepth 16384

/-! # The rounds of one row

A round finds the element whose rank is the round's number: it is the head of its lane, its distance the
least head, its column the least column among the heads at that distance. -/

noncomputable section
namespace Cert.KernelIdeal.Body
open Idealize.ShloMosaic Cert.KernelIdeal.Gen Cert.Row

variable {D : Fin 5120 → EReal} {s : St Ideal} {r : Fin 512} {k : ℕ}

/-- The lane of a column. -/
def laneOf (c : Fin 5120) : Fin 1280 := ⟨c.val / 4, by have := c.isLt; omega⟩

/-- The element of rank `k` heads its lane before round `k`. -/
theorem head_of_rank {j : Fin 1280} {c : Fin 5120} (hc : rank D c = k) (hj : c.val / 4 = j.val)
    {l : List (Fin 5120)} (hp : l.Pairwise (fun a b => rank D a < rank D b))
    (hm : ∀ c, c ∈ l ↔ c.val / 4 = j.val ∧ k ≤ rank D c) : ∃ t, l = c :: t := by
  have hmem : c ∈ l := (hm c).mpr ⟨hj, hc.ge⟩
  cases l with
  | nil => exact absurd hmem (List.not_mem_nil)
  | cons a t =>
    have ha := ((hm a).mp (List.mem_cons_self)).2
    rcases List.mem_cons.mp hmem with e | e
    · exact ⟨t, by rw [e]⟩
    · have := (List.pairwise_cons.mp hp).1 c e
      omega

/-- The least head is the distance of the element whose rank is the round's number. -/
theorem low_eq (h : ∀ j, Lane D s r k j) {c : Fin 5120} (hc : rank D c = k) :
    s.low (ix2 r 0) = D c ∧ s.v0 (ix2 r (laneOf c)) = D c := by
  have hv : s.v0 (ix2 r (laneOf c)) = D c := by
    obtain ⟨l, hp, _, hm, ⟨hv, _⟩, _⟩ := h (laneOf c)
    obtain ⟨t, rfl⟩ := head_of_rank hc rfl hp hm
    exact hv
  refine ⟨?_, hv⟩
  pointwise [St.low]
  rw [fold_min_eq (fun x => s.v0 (ix2 r x)) (laneOf c), hv]
  intro i
  show s.v0 (ix2 r (laneOf c)) ≤ s.v0 (ix2 r i)
  rw [hv]
  obtain ⟨l, hp, _, hm, ⟨hv', _⟩, _⟩ := h i
  rw [hv']
  cases l with
  | nil => exact le_top
  | cons a t => exact le_of_rank D (hc.trans_le ((hm a).mp List.mem_cons_self).2)

/-- The chosen column is the element whose rank is the round's number. -/
theorem arg_eq (hfin : ∀ c, D c < ⊤) (h : ∀ j, Lane D s r k j) {c : Fin 5120} (hc : rank D c = k) :
    s.arg (ix2 r 0) = word c := by
  obtain ⟨hlow, hv⟩ := low_eq h hc
  pointwise [St.arg]
  apply fold_minsi_eq
  · intro i
    rw [word_toInt, hlow]
    obtain ⟨l, hp, _, hm, ⟨hv', _⟩, c0, c1, c2, c3, ⟨hi, _⟩, _, ⟨he, _⟩⟩ := h i
    split_ifs with hd
    · rw [hi, word_toInt]
      cases l with
      | nil =>
        rw [hd] at hv'
        exact absurd hv' (hfin c).ne
      | cons a t =>
        have ea : a = c0 := he a rfl
        have hda : D c = D a := by rw [← hd, hv']; rfl
        have := place_of_rank D (hc.trans_le ((hm a).mp List.mem_cons_self).2) hda
        rw [← ea]
        exact_mod_cast this
    · have e : (5120#32 : BitVec 32).toInt = 5120 := by decide
      have := c.isLt
      rw [e]
      omega
  · refine ⟨laneOf c, ?_⟩
    rw [if_pos (hv.trans hlow.symm)]
    obtain ⟨l, hp, _, hm, _, c0, c1, c2, c3, ⟨hi, _⟩, _, ⟨he, _⟩⟩ := h (laneOf c)
    obtain ⟨t, rfl⟩ := head_of_rank hc rfl hp hm
    rw [hi, ← he c rfl]

/-- The lane that is shifted is the lane of the chosen column. -/
theorem hit_eq (hfin : ∀ c, D c < ⊤) (h : ∀ j, Lane D s r k j) {c : Fin 5120} (hc : rank D c = k) (j : Fin 1280) :
    s.hit (ix2 r j) = BitVec.ofBool (decide (c.val / 4 = j.val)) := by
  pointwise [St.hit]
  rw [arg_eq hfin h hc]
  obtain ⟨l, hp, _, hm, _, c0, c1, c2, c3, ⟨hi, _⟩, ⟨hl, _⟩, ⟨he, _⟩⟩ := h j
  rw [hi]
  unfold IntOp.cmpi
  congr 1
  by_cases hj : c.val / 4 = j.val
  · obtain ⟨t, rfl⟩ := head_of_rank hc hj hp hm
    rw [← he c rfl]
    simp [hj]
  · have hne : word c0 ≠ word c := fun e => hj (by rw [← word_inj e]; exact hl)
    simp [hj, hne]

/-- `v0` after a round, at an index. -/
theorem pop_v0 (s : St Ideal) (r : Fin 512) (j : Fin 1280) :
    s.pop.v0 (ix2 r j) = Scalar.select (s.hit (ix2 r j)) (s.v1 (ix2 r j)) (s.v0 (ix2 r j)) := by
  pointwise [St.pop]

/-- `v1` after a round, at an index. -/
theorem pop_v1 (s : St Ideal) (r : Fin 512) (j : Fin 1280) :
    s.pop.v1 (ix2 r j) = Scalar.select (s.hit (ix2 r j)) (s.v2 (ix2 r j)) (s.v1 (ix2 r j)) := by
  pointwise [St.pop]

/-- `v2` after a round, at an index. -/
theorem pop_v2 (s : St Ideal) (r : Fin 512) (j : Fin 1280) :
    s.pop.v2 (ix2 r j) = Scalar.select (s.hit (ix2 r j)) (s.v3 (ix2 r j)) (s.v2 (ix2 r j)) := by
  pointwise [St.pop]

/-- `i0` after a round, at an index. -/
theorem pop_i0 (s : St Ideal) (r : Fin 512) (j : Fin 1280) :
    s.pop.i0 (ix2 r j) = Scalar.select (s.hit (ix2 r j)) (s.i1 (ix2 r j)) (s.i0 (ix2 r j)) := by
  pointwise [St.pop]

/-- `i1` after a round, at an index. -/
theorem pop_i1 (s : St Ideal) (r : Fin 512) (j : Fin 1280) :
    s.pop.i1 (ix2 r j) = Scalar.select (s.hit (ix2 r j)) (s.i2 (ix2 r j)) (s.i1 (ix2 r j)) := by
  pointwise [St.pop]

/-- `i2` after a round, at an index. -/
theorem pop_i2 (s : St Ideal) (r : Fin 512) (j : Fin 1280) :
    s.pop.i2 (ix2 r j) = Scalar.select (s.hit (ix2 r j)) (s.i3 (ix2 r j)) (s.i2 (ix2 r j)) := by
  pointwise [St.pop]

/-- `v3` after a round, at an index. -/
theorem pop_v3 (s : St Ideal) (r : Fin 512) (j : Fin 1280) :
    s.pop.v3 (ix2 r j) =
      Scalar.select (s.hit (ix2 r j)) (Ideal.ofBits FTy.f32 2139095040#32) (s.v3 (ix2 r j)) := by
  pointwise [St.pop]

/-- A round takes every lane to its state before the next round. -/
theorem lane_pop (hfin : ∀ c, D c < ⊤) (h : ∀ j, Lane D s r k j) {c : Fin 5120} (hc : rank D c = k) (j : Fin 1280) :
    Lane D s.pop r (k + 1) j := by
  have hh := hit_eq hfin h hc j
  by_cases hj : c.val / 4 = j.val
  · rw [decide_eq_true hj] at hh
    have sel : ∀ {α : Type} (x y : α), Scalar.select (s.hit (ix2 r j)) x y = x := fun x y => by rw [hh]; rfl
    obtain ⟨l, hp, hlen, hm, ⟨w0, w1, w2, w3⟩, c0, c1, c2, c3, ⟨i0, i1, i2, i3⟩, ⟨l0, l1, l2, l3⟩, e0, e1, e2, e3⟩ := h j
    obtain ⟨t, rfl⟩ := head_of_rank hc hj hp hm
    obtain ⟨hp1, hp2⟩ := List.pairwise_cons.mp hp
    simp only [List.getElem?_cons_succ] at w1 w2 w3 e1 e2 e3
    have h3 : t[3]? = none := List.getElem?_eq_none (by rw [List.length_cons] at hlen; omega)
    refine ⟨t, hp2, by simp at hlen; omega, fun x => ?_, ⟨?_, ?_, ?_, ?_⟩, c1, c2, c3, c3, ⟨?_, ?_, ?_, ?_⟩,
      ⟨l1, l2, l3, l3⟩, ?_, ?_, ?_, ?_⟩
    · constructor
      · intro hx
        have := hp1 x hx
        exact ⟨((hm x).mp (List.mem_cons_of_mem _ hx)).1, by omega⟩
      · rintro ⟨hx, hk⟩
        rcases List.mem_cons.mp ((hm x).mpr ⟨hx, by omega⟩) with e | e
        · rw [e] at hk; omega
        · exact e
    · exact (pop_v0 s r j).trans ((sel _ _).trans w1)
    · exact (pop_v1 s r j).trans ((sel _ _).trans w2)
    · exact (pop_v2 s r j).trans ((sel _ _).trans w3)
    · rw [h3]
      refine (pop_v3 s r j).trans ((sel _ _).trans ?_)
      show Ideal.ofBits FTy.f32 2139095040#32 = ⊤
      simp [Ideal.ofBits, Ideal.ieee]
    · exact (pop_i0 s r j).trans ((sel _ _).trans i1)
    · exact (pop_i1 s r j).trans ((sel _ _).trans i2)
    · exact (pop_i2 s r j).trans ((sel _ _).trans i3)
    · exact i3
    · exact fun x hx => e1 x hx
    · exact fun x hx => e2 x hx
    · exact fun x hx => e3 x hx
    · exact fun x hx => by rw [h3] at hx; exact absurd hx (by simp)
  · rw [decide_eq_false hj] at hh
    have sel : ∀ {α : Type} (x y : α), Scalar.select (s.hit (ix2 r j)) x y = y := fun x y => by rw [hh]; rfl
    obtain ⟨l, hp, hlen, hm, ⟨w0, w1, w2, w3⟩, c0, c1, c2, c3, ⟨i0, i1, i2, i3⟩, hl, he⟩ := h j
    refine ⟨l, hp, hlen, fun x => ?_, ⟨?_, ?_, ?_, ?_⟩, c0, c1, c2, c3, ⟨?_, ?_, ?_, ?_⟩, hl, he⟩
    · rw [hm x]
      refine and_congr_right fun hx => ⟨fun hk => ?_, fun hk => by omega⟩
      rcases hk.lt_or_eq with hk | hk
      · omega
      · exact absurd (rank_inj D (hc.trans hk)) (fun e => hj (by rw [e]; exact hx))
    · exact (pop_v0 s r j).trans ((sel _ _).trans w0)
    · exact (pop_v1 s r j).trans ((sel _ _).trans w1)
    · exact (pop_v2 s r j).trans ((sel _ _).trans w2)
    · exact (pop_v3 s r j).trans ((sel _ _).trans w3)
    · exact (pop_i0 s r j).trans ((sel _ _).trans i0)
    · exact (pop_i1 s r j).trans ((sel _ _).trans i1)
    · exact (pop_i2 s r j).trans ((sel _ _).trans i2)
    · exact i3

variable {x0 : Vec Ideal S512x128 .f32} {x1 : Vec Ideal S8x5120 .f32}

/-- Every lane, before any round. -/
theorem lane_stAt (hfin : ∀ c, D c < ⊤) (h : ∀ j, Lane D (sorted x0 x1) r 0 j) :
    ∀ k, k ≤ 5120 → ∀ j, Lane D (stAt x0 x1 k) r k j := by
  intro k
  induction k with
  | zero => exact fun _ => h
  | succ k ih =>
    intro hk j
    obtain ⟨c, hc⟩ := exists_rank D (show k < 5120 by omega)
    exact lane_pop hfin (ih (by omega)) hc j

/-- After `k` rounds the least head and the chosen column are those of the element of rank `k`. -/
theorem stAt_at (hfin : ∀ c, D c < ⊤) (h : ∀ j, Lane D (sorted x0 x1) r 0 j) {c : Fin 5120} (hc : rank D c = k) :
    (stAt x0 x1 k).low (ix2 r 0) = D c ∧ (stAt x0 x1 k).arg (ix2 r 0) = word c := by
  have hk : k < 5120 := hc ▸ rank_lt_card D c
  have hl := lane_stAt hfin h k hk.le
  exact ⟨(low_eq hl hc).1, arg_eq hfin hl hc⟩

/-- Where the column `c` lies among the points the body is given: its remainder by four picks the run, its
    quotient the place in the run. -/
def place (c : Fin 5120) : Fin 5120 := ⟨c.val % 4 * 1280 + c.val / 4, by have := c.isLt; omega⟩

/-- The floored distance between row `r`'s point and the point at place `o`. -/
def distAt (x0 : Vec Ideal S512x128 .f32) (x1 : Vec Ideal S8x5120 .f32) (r : Fin 512) (o : Fin 5120) : EReal :=
  Ideal.sqrt
    (max
      ((x0 (ix2 r 0) - x1 (ix2 0 o)) * (x0 (ix2 r 0) - x1 (ix2 0 o)) +
          (x0 (ix2 r 1) - x1 (ix2 1 o)) * (x0 (ix2 r 1) - x1 (ix2 1 o)) +
        (x0 (ix2 r 2) - x1 (ix2 2 o)) * (x0 (ix2 r 2) - x1 (ix2 2 o)))
      (Ideal.ofBits FTy.f32 730643660#32))

/-- The floored distance between row `r`'s point and the point of column `c`, as the body computes it. -/
def dist (x0 : Vec Ideal S512x128 .f32) (x1 : Vec Ideal S8x5120 .f32) (r : Fin 512) (c : Fin 5120) : EReal :=
  distAt x0 x1 r (place c)

/-- Before the network the lane `j` holds the columns `4 j` to `4 j + 3`. -/
theorem holds_raw (r : Fin 512) (j : Fin 1280) :
    Holds (dist x0 x1 r) (raw x0 x1) r j ⟨4 * j.val, by omega⟩ ⟨4 * j.val + 1, by omega⟩
      ⟨4 * j.val + 2, by omega⟩ ⟨4 * j.val + 3, by omega⟩ := by
  have hw : ∀ q : ℕ, q < 4 → IntOp.addi (IntOp.muli (BitVec.ofNat 32 j.val) 4#32) (BitVec.ofNat 32 q) =
      BitVec.ofNat 32 (4 * j.val + q) := by
    intro q hq
    apply BitVec.eq_of_toNat_eq
    simp only [IntOp.addi, IntOp.muli, BitVec.toNat_add, BitVec.toNat_mul, BitVec.toNat_ofNat]
    omega
  constructor
  · have e : place ⟨4 * j.val + 0, by omega⟩ = ⟨j.val, by omega⟩ := Fin.ext (by simp only [place]; omega)
    refine Eq.trans ?_ (congrArg (distAt x0 x1 r) e).symm
    pointwise [raw, rooted, squared, distAt]
  · have e : place ⟨4 * j.val + 1, by omega⟩ = ⟨1280 + j.val, by omega⟩ := Fin.ext (by simp only [place]; omega)
    refine Eq.trans ?_ (congrArg (distAt x0 x1 r) e).symm
    pointwise [raw, rooted, squared, distAt]
  · have e : place ⟨4 * j.val + 2, by omega⟩ = ⟨2560 + j.val, by omega⟩ := Fin.ext (by simp only [place]; omega)
    refine Eq.trans ?_ (congrArg (distAt x0 x1 r) e).symm
    pointwise [raw, rooted, squared, distAt]
  · have e : place ⟨4 * j.val + 3, by omega⟩ = ⟨3840 + j.val, by omega⟩ := Fin.ext (by simp only [place]; omega)
    refine Eq.trans ?_ (congrArg (distAt x0 x1 r) e).symm
    pointwise [raw, rooted, squared, distAt]
  · pointwise [raw, column]
    exact hw 0 (by omega)
  · pointwise [raw, column]
    exact hw 1 (by omega)
  · pointwise [raw, column]
    exact hw 2 (by omega)
  · pointwise [raw, column]
    exact hw 3 (by omega)

/-- The state after `k` rounds at row `r`: the element of rank `k` by the row's distances. -/
theorem stAt_dist (r : Fin 512) (hfin : ∀ c, dist x0 x1 r c < ⊤) {c : Fin 5120} (hc : rank (dist x0 x1 r) c = k) :
    (stAt x0 x1 k).low (ix2 r 0) = dist x0 x1 r c ∧ (stAt x0 x1 k).arg (ix2 r 0) = word c :=
  stAt_at hfin (fun j => lane_sorted rfl rfl rfl rfl (holds_raw r j)) hc

end Cert.KernelIdeal.Body
end
-- ==== Proof.Prefix.lean ====
module
public import proofs.«01_k».proof.Proof.Outs
public import proofs.«01_k».proof.Proof.Rounds
public import Idealize.ShloMosaic.Lib.Pointwise
public import Idealize.ShloMosaic.Lib.Pipeline.ValueKit
public import Idealize.ShloMosaic.Lib.StableHlo.ReadAt
public import Idealize.ShloMosaic.Lib.Routing.OpsSet
public import Idealize.ShloMosaic.Lib.Routing.OpsPair
@[expose] public section
set_option maxRecDepth 16384

/-! # The arrays the launch is given, and the blocks of a grid point

The points are padded by 120 far ones; one array holds them as rows, the other as columns, four
neighbouring points at the same place of four runs. -/

noncomputable section
namespace Cert.KernelIdeal.Body
open Idealize.ShloMosaic Idealize.ShloMosaic.Pipeline Idealize.SL.Sem Cert.KernelIdeal.Gen Cert.KernelIdeal

/-- A coordinate of the padded points: one of the argument's, or the far coordinate. -/
def padded (x : FVec Ideal S5000x3 .f32) (i : Fin 5120) (a : Fin 3) : EReal :=
  if h : i.val < 5000 then x (ix2 ⟨i.val, h⟩ a) else Ideal.ofBits FTy.f32 1315859240#32

/-- The floored distance between two of the padded points. -/
def gap (x : FVec Ideal S5000x3 .f32) (i j : Fin 5120) : EReal :=
  Ideal.sqrt
    (max
      ((padded x i 0 - padded x j 0) * (padded x i 0 - padded x j 0) +
          (padded x i 1 - padded x j 1) * (padded x i 1 - padded x j 1) +
        (padded x i 2 - padded x j 2) * (padded x i 2 - padded x j 2))
      (Ideal.ofBits FTy.f32 730643660#32))

variable (m : (ℓ : Loc nD τ sig) → Buf (Elt Ideal) ℓ)

/-- The argument's points on core `c`. -/
def points (c : Dev nD) : FVec Ideal S5000x3 .f32 :=
  let ℓ : Loc nD τ sig := (c, Proc.devRef .tc main_arg0)
  m ℓ

/-- The padded points before the launch. -/
theorem V_padded (c : Dev nD) (i : Fin 5120) (a : Fin 3) : V m c main_v1 (ix2 i a) = padded (points m c) i a := by
  unfold V V0
  simp only [List.flatten_cons, List.flatten_nil, List.append_nil]
  after_reads_at
  rfl

/-- Where an update of the scatter of rows lands: at its own coordinates. -/
theorem rows_lands (idx : IVec S1 32) (hidx : ∀ k, idx k = 0#32) (i : Fin 5120) (a : Fin 3) (i' : Fin 5120) (a' : Fin 128) :
    scatter_S5120x128_S1_S5120x3_01_n_1_0.resultIdx? (ix2 i a) idx = some (ix2 i' a') ↔ i = i' ∧ a.val = a'.val := by
  refine (Routing.resultIdx?_eq_some _ _ _ _).trans (Fin.forall_fin_two.trans ?_)
  have s0 : scatter_S5120x128_S1_S5120x3_01_n_1_0.start (ix2 i a) idx 0 = 0 := rfl
  have s1 : scatter_S5120x128_S1_S5120x3_01_n_1_0.start (ix2 i a) idx 1 = 0 := by
    unfold ScatterDims.start
    split
    · exact congrArg BitVec.toInt (hidx _)
    · rfl
  have w0 : scatter_S5120x128_S1_S5120x3_01_n_1_0.window (ix2 i a) 0 = i.val := rfl
  have w1 : scatter_S5120x128_S1_S5120x3_01_n_1_0.window (ix2 i a) 1 = a.val := rfl
  rw [s0, s1, w0, w1, Fin.ext_iff]
  change 0 + (i.val : ℤ) = (i'.val : ℤ) ∧ 0 + (a.val : ℤ) = (a'.val : ℤ) ↔ _
  omega

/-- Where an update of the scatter of columns lands: at its own coordinates. -/
theorem cols_lands (idx : IVec S1 32) (hidx : ∀ k, idx k = 0#32) (a : Fin 3) (o : Fin 5120) (a' : Fin 8) (o' : Fin 5120) :
    scatter_S8x5120_S1_S3x5120_01_n_0_0.resultIdx? (ix2 a o) idx = some (ix2 a' o') ↔ a.val = a'.val ∧ o = o' := by
  refine (Routing.resultIdx?_eq_some _ _ _ _).trans (Fin.forall_fin_two.trans ?_)
  have s0 : scatter_S8x5120_S1_S3x5120_01_n_0_0.start (ix2 a o) idx 0 = 0 := by
    unfold ScatterDims.start
    split
    · exact congrArg BitVec.toInt (hidx _)
    · rfl
  have s1 : scatter_S8x5120_S1_S3x5120_01_n_0_0.start (ix2 a o) idx 1 = 0 := rfl
  have w0 : scatter_S8x5120_S1_S3x5120_01_n_0_0.window (ix2 a o) 0 = a.val := rfl
  have w1 : scatter_S8x5120_S1_S3x5120_01_n_0_0.window (ix2 a o) 1 = o.val := rfl
  rw [s0, s1, w0, w1, Fin.ext_iff]
  change 0 + (a.val : ℤ) = (a'.val : ℤ) ∧ 0 + (o.val : ℤ) = (o'.val : ℤ) ↔ _
  omega

/-- The array of rows before the launch, at the three coordinates. -/
theorem V_rows (c : Dev nD) (i : Fin 5120) (a : Fin 3) :
    V m c main_v4 (ix2 i ⟨a.val, by omega⟩) = padded (points m c) i a := by
  rw [← V_padded]
  unfold V V0
  simp only [List.flatten_cons, List.flatten_nil, List.append_nil]
  after_reads_simp
  refine Routing.scatter_set_hit _ _ _ _ _ _ (fun k hk => ?_) (ix2 i a) ((rows_lands _ (fun _ => rfl) _ _ _ _).mpr ⟨rfl, rfl⟩)
  obtain ⟨k0, k1, rfl⟩ : ∃ (k0 : Fin 5120) (k1 : Fin 3), k = ix2 k0 k1 := ⟨k 0, k 1, eq_ix2 k⟩
  obtain ⟨h1, h2⟩ := (rows_lands _ (fun _ => rfl) _ _ _ _).mp hk
  rw [h1, Fin.ext h2]
  rfl

/-- The points as columns before the launch. -/
theorem V_turned (c : Dev nD) (a : Fin 3) (o : Fin 5120) :
    V m c main_v9 (ix2 a o) = padded (points m c) ⟨o.val % 1280 * 4 + o.val / 1280, by omega⟩ a := by
  unfold V V0
  simp only [List.flatten_cons, List.flatten_nil, List.append_nil]
  after_reads_simp
  clean_types
  pointwise
  after_reads_simp
  pointwise
  rfl

/-- The array of columns before the launch, at the three coordinates. -/
theorem V_cols (c : Dev nD) (a : Fin 3) (o : Fin 5120) :
    V m c main_v11 (ix2 ⟨a.val, by omega⟩ o) = padded (points m c) ⟨o.val % 1280 * 4 + o.val / 1280, by omega⟩ a := by
  rw [← V_turned]
  unfold V V0
  simp only [List.flatten_cons, List.flatten_nil, List.append_nil]
  after_reads_simp
  refine Routing.scatter_set_hit _ _ _ _ _ _ (fun k hk => ?_) (ix2 a o) ((cols_lands _ (fun _ => rfl) _ _ _ _).mpr ⟨rfl, rfl⟩)
  obtain ⟨k0, k1, rfl⟩ : ∃ (k0 : Fin 3) (k1 : Fin 5120), k = ix2 k0 k1 := ⟨k 0, k 1, eq_ix2 k⟩
  obtain ⟨h1, h2⟩ := (cols_lands _ (fun _ => rfl) _ _ _ _).mp hk
  rw [h2, Fin.ext h1]

/-- The blocks of a point: the rows go with the point, the columns are whole. -/
theorem index_maps : ∀ t : Fin cfg0.N, win0_0.index t = ![t.val, 0] ∧ win0_1.index t = ![0, 0] ∧
    win0_2.index t = ![t.val, 0] ∧ win0_3.index t = ![t.val, 0, 0] := by
  decide +kernel

/-- The point a row of a block is. -/
def rowOf (t : Fin cfg0.N) (r : Fin 512) : Fin 5120 :=
  ⟨512 * t.val + r.val, by have := t.isLt; have : cfg0.N = 10 := N_0; omega⟩

/-- The block of rows of a point. -/
theorem iblk_rows (c : Dev nD) (t : Fin cfg0.N) (r : Fin 512) (a : Fin 3) :
    iblk m c 0 t (ix2 r ⟨a.val, by omega⟩) = padded (points m c) (rowOf t r) a := by
  rw [← V_rows]
  blk_ext [iblk, rowOf, (index_maps t).1]

/-- The block of columns of a point. -/
theorem iblk_cols (c : Dev nD) (t : Fin cfg0.N) (a : Fin 3) (o : Fin 5120) :
    iblk m c 1 t (ix2 ⟨a.val, by omega⟩ o) = padded (points m c) ⟨o.val % 1280 * 4 + o.val / 1280, by omega⟩ a := by
  rw [← V_cols]
  blk_ext [iblk, (index_maps t).2.1]

/-- The distances of a row of a block are the gaps of its point. -/
theorem dist_iblk (c : Dev nD) (t : Fin cfg0.N) (r : Fin 512) :
    dist (iblk m c 0 t) (iblk m c 1 t) r = gap (points m c) (rowOf t r) := by
  funext j
  have e : (⟨(place j).val % 1280 * 4 + (place j).val / 1280, by have := (place j).isLt; omega⟩ : Fin 5120) = j :=
    Fin.ext (by simp only [place]; have := j.isLt; omega)
  have hr := iblk_rows m c t r
  have hc := fun a => (iblk_cols m c t a (place j)).trans (congrArg (fun q => padded (points m c) q a) e)
  unfold dist distAt gap
  rw [← hr 0, ← hr 1, ← hr 2, ← hc 0, ← hc 1, ← hc 2]
  rfl

end Cert.KernelIdeal.Body
end
-- ==== Proof.Arrays.lean ====
module
public import proofs.«01_k».proof.Proof.Prefix
@[expose] public section
set_option maxRecDepth 16384

/-! # The two arrays after the launch -/

noncomputable section
namespace Cert.KernelIdeal.Body
open Idealize.ShloMosaic Idealize.ShloMosaic.Pipeline Idealize.SL.Sem Cert.KernelIdeal.Gen Cert.KernelIdeal

variable (m : (ℓ : Loc nD τ sig) → Buf (Elt Ideal) ℓ)

/-- The grid point whose block holds a row. -/
def pointOf (i : Fin 5120) : Fin cfg0.N := ⟨i.val / 512, by have : cfg0.N = 10 := N_0; omega⟩

/-- A row's place in its block. -/
def inBlock (i : Fin 5120) : Fin 512 := ⟨i.val % 512, Nat.mod_lt _ (by omega)⟩

/-- The array of columns after the launch. -/
def idxArr (c : Dev nD) : IVec S5120x32 32 := fun y => (outsAt0 m c (pointOf (y 0))).1 (ix2 (inBlock (y 0)) (y 1))

/-- The array of radial functions after the launch. -/
def rbfArr (c : Dev nD) : FVec Ideal S5120x30x32 .f32 :=
  fun y => (outsAt0 m c (pointOf (y 0))).2 (ix3 (inBlock (y 0)) (y 1) (y 2))

/-- The array of columns is what every point wrote back. -/
theorem arr_idx (c : Dev nD) : (dats m 0 c).arrAt 2 (cfgs 0).N = idxArr m c := by
  refine (dats m 0 c).arrAt_eq_of_covers 2 _ (by decide +kernel) fun t hf y => ?_
  blk_simp
  rw [after0_2]
  have h0 : ((win0_2.blk t).view.emb y 0).val = t.val * 512 + (y 0).val := by
    blk_simp [(index_maps t).2.2.1]
  have h1 : ((win0_2.blk t).view.emb y 1).val = (y 1).val := by
    blk_simp [(index_maps t).2.2.1]
  have hy : (y 0).val < 512 := (y 0).isLt
  have e0 : pointOf ((win0_2.blk t).view.emb y 0) = t := Fin.ext (by simp only [pointOf, h0]; omega)
  have e1 : ix2 (inBlock ((win0_2.blk t).view.emb y 0)) ((win0_2.blk t).view.emb y 1) = y := by
    funext a
    match a with
    | ⟨0, _⟩ => exact Fin.ext (by show _ % 512 = (y 0).val; rw [h0]; omega)
    | ⟨1, _⟩ => exact Fin.ext h1
  show _ = (outsAt0 m c (pointOf ((win0_2.blk t).view.emb y 0))).1 _
  rw [e0]
  exact congrArg (outsAt0 m c t).1 e1.symm

/-- The array of radial functions is what every point wrote back. -/
theorem arr_rbf (c : Dev nD) : (dats m 0 c).arrAt 3 (cfgs 0).N = rbfArr m c := by
  refine (dats m 0 c).arrAt_eq_of_covers 3 _ (by decide +kernel) fun t hf y => ?_
  blk_simp
  rw [after0_3]
  have h0 : ((win0_3.blk t).view.emb y 0).val = t.val * 512 + (y 0).val := by
    blk_simp [(index_maps t).2.2.2]
  have h1 : ((win0_3.blk t).view.emb y 1).val = (y 1).val := by
    blk_simp [(index_maps t).2.2.2]
  have h2 : ((win0_3.blk t).view.emb y 2).val = (y 2).val := by
    blk_simp [(index_maps t).2.2.2]
  have hy : (y 0).val < 512 := (y 0).isLt
  have e0 : pointOf ((win0_3.blk t).view.emb y 0) = t := Fin.ext (by simp only [pointOf, h0]; omega)
  have e1 : ix3 (inBlock ((win0_3.blk t).view.emb y 0)) ((win0_3.blk t).view.emb y 1) ((win0_3.blk t).view.emb y 2) = y := by
    funext a
    match a with
    | ⟨0, _⟩ => exact Fin.ext (by show _ % 512 = (y 0).val; rw [h0]; omega)
    | ⟨1, _⟩ => exact Fin.ext h1
    | ⟨2, _⟩ => exact Fin.ext h2
  show _ = (outsAt0 m c (pointOf ((win0_3.blk t).view.emb y 0))).2 _
  rw [e0]
  exact congrArg (outsAt0 m c t).2 e1.symm

/-- The two windows' arrays after the launch are read by the operations behind it. -/
theorem tail_idx (c : Dev nD) :
    Pipeline.withArrays (cfgs 0).spec c (V0 m c) (fun w => (dats m 0 c).arrAt w (cfgs 0).N) (Proc.devRef .tc main_v12_0) = idxArr m c :=
  (Pipeline.withArrays_arr (cfgs 0).spec (by decide) c (V0 m c) (fun w => (dats m 0 c).arrAt w (cfgs 0).N) 2).trans (arr_idx m c)

/-- The same for the radial functions. -/
theorem tail_rbf (c : Dev nD) :
    Pipeline.withArrays (cfgs 0).spec c (V0 m c) (fun w => (dats m 0 c).arrAt w (cfgs 0).N) (Proc.devRef .tc main_v12_1) = rbfArr m c :=
  (Pipeline.withArrays_arr (cfgs 0).spec (by decide) c (V0 m c) (fun w => (dats m 0 c).arrAt w (cfgs 0).N) 3).trans (arr_rbf m c)

end Cert.KernelIdeal.Body
end
-- ==== Proof.Tail.lean ====
module
public import proofs.«01_k».proof.Proof.Arrays
@[expose] public section
set_option maxRecDepth 16384

/-! # What the operations behind the launch leave in the two results -/

noncomputable section
namespace Cert.KernelIdeal.Body
open Idealize.ShloMosaic Idealize.ShloMosaic.Pipeline Idealize.SL.Sem Cert.KernelIdeal.Gen Cert.KernelIdeal

variable (m : (ℓ : Loc nD τ sig) → Buf (Elt Ideal) ℓ)

/-- The row of an edge. -/
def edgeRow (e : Fin 150000) : Fin 5120 := ⟨e.val / 30, by omega⟩

/-- The first result's first line: the edge's row. -/
theorem out_src (c : Dev nD) (e : Fin 150000) :
    (Pipeline.afterTail₀ cfgs (dats m) 0 (V0 m) [hostOps1] c main_v20 : IVec S2x150000 32) (ix2 0 e) = BitVec.ofNat 32 (e.val / 30) := by
  unfold Pipeline.afterTail₀
  simp only [List.flatten_cons, List.flatten_nil, List.append_nil]
  generalize Pipeline.withArrays (cfgs 0).spec c (V0 m c) (fun w => (dats m 0 c).arrAt w (cfgs 0).N) = W
  after_reads_simp
  pointwise

/-- The first result's second line: the edge's column. -/
theorem out_dst (c : Dev nD) (e : Fin 150000) :
    (Pipeline.afterTail₀ cfgs (dats m) 0 (V0 m) [hostOps1] c main_v20 : IVec S2x150000 32) (ix2 1 e)
      = idxArr m c (ix2 (edgeRow e) ⟨e.val % 30, by omega⟩) := by
  rw [← tail_idx]
  unfold Pipeline.afterTail₀
  simp only [List.flatten_cons, List.flatten_nil, List.append_nil]
  generalize Pipeline.withArrays (cfgs 0).spec c (V0 m c) (fun w => (dats m 0 c).arrAt w (cfgs 0).N) = W
  after_reads_simp
  pointwise
  rfl

/-- The second result: the edge's radial functions. -/
theorem out_rbf (c : Dev nD) (e : Fin 150000) (l : Fin 32) :
    (Pipeline.afterTail₀ cfgs (dats m) 0 (V0 m) [hostOps1] c main_v22 : FVec Ideal S150000x32 .f32) (ix2 e l)
      = rbfArr m c (ix3 (edgeRow e) ⟨e.val % 30, by omega⟩ l) := by
  rw [← tail_rbf]
  unfold Pipeline.afterTail₀
  simp only [List.flatten_cons, List.flatten_nil, List.append_nil]
  generalize Pipeline.withArrays (cfgs 0).spec c (V0 m c) (fun w => (dats m 0 c).arrAt w (cfgs 0).N) = W
  after_reads_simp
  pointwise
  rfl

end Cert.KernelIdeal.Body
end
-- ==== Proof.Sort.lean ====
module
public import proofs.«01_k».proof.Proof.Rank
public import Idealize.ShloMosaic.Lib.SortPrefix
@[expose] public section

/-! # A stable sort puts the element of rank `k` at position `k` -/

namespace Cert.Row
open Idealize.ShloMosaic

variable {n : ℕ} (D : Fin n → EReal)

/-- Before by the key alone. -/
noncomputable def keyed (a b : Fin n) : Bool := decide (D a < D b)

open Classical in
/-- Before by the key, then by the position. -/
noncomputable def placed (a b : Fin n) : Bool := decide (Before D a b)

/-- A stable sort of elements listed in their order does not tell the two apart. -/
theorem stableSort_keyed (l : List (Fin n)) (h : l.Pairwise (· < ·)) :
    stableSort (keyed D) l = stableSort (placed D) l := by
  induction l with
  | nil => rfl
  | cons a l ih =>
    rw [List.pairwise_cons] at h
    show insertBefore (keyed D) a (stableSort (keyed D) l) = insertBefore (placed D) a (stableSort (placed D) l)
    rw [ih h.2]
    refine insertBefore_congr _ _ a _ fun b hb => ?_
    have hab := h.1 b ((perm_stableSort _ l).mem_iff.mp hb)
    unfold keyed placed Before
    simp only [hab.not_gt, and_false, or_false]

/-- So neither does the position a sort takes an element from. -/
theorem sortedFrom_keyed (k : Fin n) : sortedFrom (keyed D) k = sortedFrom (placed D) k := by
  have h : sortPositions n (keyed D) = sortPositions n (placed D) :=
    stableSort_keyed D _ (List.pairwise_lt_finRange n)
  unfold sortedFrom
  exact List.getElem_of_eq h _

/-- The order by key and position is total. -/
theorem placed_total : StrictTotalBefore (placed D) where
  irrefl a := by simp [placed, Before.irrefl]
  trans a b c h h' := by
    simp only [placed, decide_eq_true_eq] at h h' ⊢
    exact h.trans h'
  total a b h := by
    simp only [placed, decide_eq_true_eq]
    exact Before.total D h

/-- Position `k` of the sorted row holds the element of rank `k`. -/
theorem sortedFrom_rank {c k : Fin n} (hc : rank D c = k.val) : sortedFrom (keyed D) k = c := by
  rw [sortedFrom_keyed]
  have h := (placed_total D).sortedFrom_eq_of_prefix (le_refl n) (nth D)
    (fun i j e => Fin.ext (by rw [← rank_nth D i, ← rank_nth D j, e]))
    (fun i j hij => by
      simp only [placed, decide_eq_false_iff_not, ← rank_lt_iff, rank_nth]
      have : i.val < j.val := hij
      omega)
    (fun i p hp => absurd (rank_inj D (rank_nth D ⟨rank D p, rank_lt_card D p⟩)) (hp _)) k
  exact h.trans (rank_inj D (by rw [rank_nth, hc]))

end Cert.Row
end
-- ==== Proof.Refs.lean ====
module
public import proofs.«01_k».proof.Proof.Sort
public import proofs.«01_k».proof.Proof.Gen.ReferenceIdeal.Read
public import Idealize.ShloMosaic.Lib.Pointwise
@[expose] public section
set_option maxRecDepth 16384

/-! # The reference's neighbours -/

noncomputable section
namespace Cert.ReferenceIdeal.Nearest
open Idealize.ShloMosaic Idealize.SL.Sem Cert.ReferenceIdeal.Read Cert.ReferenceIdeal Cert.Row

/-- The reference's floored distance between two points. -/
def apart (x : FVec Ideal S5000x3 .f32) (i j : Fin 5000) : EReal :=
  Ideal.sqrt
    (max
      ((x (ix2 i 0) - x (ix2 j 0)) * (x (ix2 i 0) - x (ix2 j 0)) +
          (x (ix2 i 1) - x (ix2 j 1)) * (x (ix2 i 1) - x (ix2 j 1)) +
        (x (ix2 i 2) - x (ix2 j 2)) * (x (ix2 i 2) - x (ix2 j 2)))
      (Ideal.ofBits FTy.f32 730643660#32))

variable (x : FVec Ideal S5000x3 .f32)

/-- The reference's table of distances. -/
theorem table (i j : Fin 5000) : val_main_v9 (F := Ideal) x (ix2 i j) = apart x i j := by
  rw [val_main_v9_apply, val_main_v8_apply, val_main_v6_apply]
  rw [Fin.sum_univ_three]
  simp only [val_main_v5_apply, val_main_v4_apply, val_main_v3_apply, val_main_v2_apply, val_main_v1_apply, val_main_v0_apply, val_main_v7_apply, val_main_cst_0_apply, val_main_cst_apply]
  have h0 : (FloatOps.ofBits (F := Ideal) .f32 0x00000000#32 : EReal) = 0 := by
    show Ideal.ofBits .f32 0x00000000#32 = 0
    simp [Ideal.ofBits, Ideal.ieee]
  rw [h0, zero_add]
  have e0 : ∀ a : Fin 3, idx_main_v0 (idx_main_v2 (idx_main_v6 (ix2 i j) a)) = ix2 i a := fun a => by
    funext b
    match b with
    | ⟨0, _⟩ => rfl
    | ⟨1, _⟩ => rfl
  have e1 : ∀ a : Fin 3, idx_main_v1 (idx_main_v3 (idx_main_v6 (ix2 i j) a)) = ix2 j a := fun a => by
    funext b
    match b with
    | ⟨0, _⟩ => rfl
    | ⟨1, _⟩ => rfl
  simp only [e0, e1]
  rfl

/-- The order of the reference's sort along a row. -/
abbrev greater (y : FVec Ideal S5000x5000 .f32) (q : S5000x5000.Idx) (a b : Fin 5000) : Bool :=
  FloatOps.cmpfTotal (F := Ideal) (φ := .f32) .gt (y (q.along 1 a)) (y (q.along 1 b)) == 1#1

/-- A top-k's indices, of any shape: the place of the element the sort put there. -/
theorem topK_place {s t : Shape} {α : Type} (d : ℕ) (hd : d < s.rank) (gt : α → α → BitVec 1) (y : s.Idx → α)
    (h : s.Slices (fun _ => 0) t) (j : t.Idx) (q : s.Idx) (hq : ∀ a, (q a).val = 0 + (j (Fin.cast h.1.symm a)).val) :
    (Host.topK t d gt y h).2 j
      = BitVec.ofNat 32 (sortedFrom (fun a b => gt (y (q.along ⟨d, hd⟩ a)) (y (q.along ⟨d, hd⟩ b)) == 1#1) (q ⟨d, hd⟩)).val := by
  refine (extractStridedSlice_apply (fun _ => 0) _ h j q hq).trans ?_
  unfold Host.sort2
  simp only [dif_pos hd]
  unfold iotaInDim Shape.Idx.along
  rw [Function.update_self]

/-- Along a row that holds negated distances, the order is the order by distance. -/
theorem greater_eq (y : FVec Ideal S5000x5000 .f32) (i k : Fin 5000) (hx : ∀ j, y (ix2 i j) = -apart x i j) :
    greater y (ix2 i k) = keyed (apart x i) := by
  have hal : ∀ a : Fin 5000, (ix2 i k : S5000x5000.Idx).along 1 a = ix2 i a := fun a => by
    funext r
    match r with
    | ⟨0, _⟩ => rfl
    | ⟨1, _⟩ => rfl
  funext a b
  unfold greater
  rw [hal, hal, hx, hx]
  show (BitVec.ofBool (decide (-apart x i b < -apart x i a)) == 1#1) = decide (apart x i a < apart x i b)
  by_cases h : apart x i a < apart x i b
  · simp [EReal.neg_lt_neg_iff, h]
  · simp [EReal.neg_lt_neg_iff, h]

/-- The reference's list of indices holds the element of each rank. -/
theorem listed (i : Fin 5000) (k : Fin 31) {c : Fin 5000} (hc : rank (apart x i) c = k.val) :
    val_main_indices (F := Ideal) x (ix2 i k) = BitVec.ofNat 32 c.val := by
  have hk : k.val < 5000 := by omega
  have hs : sortedFrom (keyed (apart x i)) ⟨k.val, hk⟩ = c := sortedFrom_rank _ hc
  have hx : ∀ j, val_main_v10 (F := Ideal) x (ix2 i j) = -apart x i j := fun j => by
    rw [val_main_v10_apply, table]; rfl
  unfold val_main_indices
  generalize val_main_v10 (F := Ideal) x = y at hx
  refine (topK_place 1 (by decide) _ y _ (ix2 i k) (ix2 i ⟨k.val, hk⟩) (fun a => match a with
      | ⟨0, _⟩ => (Nat.zero_add i.val).symm
      | ⟨1, _⟩ => (Nat.zero_add k.val).symm)).trans ?_
  have hg := greater_eq x y i ⟨k.val, hk⟩ hx
  exact congrArg (fun p : Fin 5000 => BitVec.ofNat 32 p.val) ((congrArg (fun f => sortedFrom f (⟨k.val, hk⟩ : Fin 5000)) hg).trans hs)

/-- The reference's gather reads the table at the two words of a line. -/
theorem gathered {α : Type} (y : S5000x5000.Idx → α) (idx : IVec S150000x2 32) (e : Fin 150000) (a b : Fin 5000)
    (ha : idx (ix2 e 0) = BitVec.ofNat 32 a.val) (hb : idx (ix2 e 1) = BitVec.ofNat 32 b.val) :
    Host.gather gather_S5000x5000_S150000x2_S150000_n_01_n_n_01_1_11 y idx (ix1 e) = y (ix2 a b) := by
  unfold Host.gather
  refine congrArg y (funext fun t => Fin.ext ?_)
  have hai : (BitVec.ofNat 32 a.val).toInt.toNat = a.val := by
    rw [BitVec.toInt_eq_toNat_cond, BitVec.toNat_ofNat]; split_ifs <;> omega
  have hbi : (BitVec.ofNat 32 b.val).toInt.toNat = b.val := by
    rw [BitVec.toInt_eq_toNat_cond, BitVec.toNat_ofNat]; split_ifs <;> omega
  match t with
  | ⟨0, _⟩ =>
    show GatherDims.start _ _ _ 0 + GatherDims.batchCoord _ _ 0 + GatherDims.offCoord _ _ 0 = a.val
    rw [GatherDims.batchCoord_eq_zero _ _ _ (by decide), GatherDims.offCoord_eq_zero _ _ _ (by decide)]
    unfold GatherDims.start
    rw [dif_pos (by decide)]
    have hq : GatherDims.siIdx gather_S5000x5000_S150000x2_S150000_n_01_n_n_01_1_11 (ix1 e) ⟨0, by decide⟩ = ix2 e 0 := by
      funext r
      match r with
      | ⟨0, _⟩ => rfl
      | ⟨1, _⟩ => rfl
    show min (idx (GatherDims.siIdx gather_S5000x5000_S150000x2_S150000_n_01_n_n_01_1_11 (ix1 e) ⟨0, by decide⟩)).toInt.toNat 4999 = a.val
    rw [hq, ha, hai]; omega
  | ⟨1, _⟩ =>
    show GatherDims.start _ _ _ 1 + GatherDims.batchCoord _ _ 1 + GatherDims.offCoord _ _ 1 = b.val
    rw [GatherDims.batchCoord_eq_zero _ _ _ (by decide), GatherDims.offCoord_eq_zero _ _ _ (by decide)]
    unfold GatherDims.start
    rw [dif_pos (by decide)]
    have hq : GatherDims.siIdx gather_S5000x5000_S150000x2_S150000_n_01_n_n_01_1_11 (ix1 e) ⟨1, by decide⟩ = ix2 e 1 := by
      funext r
      match r with
      | ⟨0, _⟩ => rfl
      | ⟨1, _⟩ => rfl
    show min (idx (GatherDims.siIdx gather_S5000x5000_S150000x2_S150000_n_01_n_n_01_1_11 (ix1 e) ⟨1, by decide⟩)).toInt.toNat 4999 = b.val
    rw [hq, hb, hbi]; omega

end Cert.ReferenceIdeal.Nearest
end
-- ==== Proof.Pads.lean ====
module
public import proofs.«01_k».proof.Proof.Prefix
public import proofs.«01_k».proof.Proof.Refs
@[expose] public section
set_option maxRecDepth 16384

/-! # The padding points are farther than every point -/

noncomputable section
namespace Cert.KernelIdeal.Body
open Idealize.ShloMosaic Idealize.SL.Sem Cert.KernelIdeal Cert.Row Cert.ReferenceIdeal.Nearest

/-- The padding coordinate. -/
theorem lit_pad : Ideal.ofBits FTy.f32 1315859240#32 = ((1000000000 : ℝ) : EReal) := by
  simp [Ideal.ofBits, Ideal.ieee]
  rw [← EReal.coe_pow, ← EReal.coe_mul]; congr 1; norm_num

/-- The floor under a squared distance is a small positive number. -/
theorem lit_floor : ∃ ε : ℝ, Ideal.ofBits FTy.f32 730643660#32 = (ε : EReal) ∧ 0 ≤ ε ∧ ε ≤ 1 := by
  refine ⟨_, by simp [Ideal.ofBits, Ideal.ieee]; rw [← EReal.coe_mul], ?_, ?_⟩ <;> norm_num

variable {x : FVec Ideal S5000x3 .f32} {X : Fin 5000 → Fin 3 → ℝ}

/-- The padded coordinates as reals. -/
def at' (X : Fin 5000 → Fin 3 → ℝ) (i : Fin 5120) (a : Fin 3) : ℝ := if h : i.val < 5000 then X ⟨i.val, h⟩ a else 1000000000

/-- Padded coordinates are reals. -/
theorem padded_real (hX : ∀ i a, x (ix2 i a) = X i a) (i : Fin 5120) (a : Fin 3) : padded x i a = (at' X i a : EReal) := by
  unfold padded at'
  split_ifs with h
  · exact hX _ _
  · exact lit_pad

/-- The squared distance between two padded points. -/
def square (X : Fin 5000 → Fin 3 → ℝ) (i j : Fin 5120) : ℝ :=
  (at' X i 0 - at' X j 0) * (at' X i 0 - at' X j 0) + (at' X i 1 - at' X j 1) * (at' X i 1 - at' X j 1)
    + (at' X i 2 - at' X j 2) * (at' X i 2 - at' X j 2)

/-- The distance between two padded points is the root of the floored square. -/
theorem gap_real (hX : ∀ i a, x (ix2 i a) = X i a) :
    ∃ ε : ℝ, 0 ≤ ε ∧ ε ≤ 1 ∧ ∀ i j, gap x i j = (Real.sqrt (max (square X i j) ε) : EReal) := by
  obtain ⟨ε, he, h0, h1⟩ := lit_floor
  refine ⟨ε, h0, h1, fun i j => ?_⟩
  unfold gap
  simp only [padded_real hX, he, ← EReal.coe_sub, ← EReal.coe_mul, ← EReal.coe_add]
  rw [← EReal.coe_strictMono.monotone.map_max]
  show (if max (square X i j) ε < 0 then (⊥ : EReal) else (Real.sqrt (max (square X i j) ε) : EReal)) = _
  rw [if_neg (not_lt.mpr (h0.trans (le_max_right _ _)))]

/-- No distance is infinite. -/
theorem gap_finite (hX : ∀ i a, x (ix2 i a) = X i a) (i j : Fin 5120) : gap x i j < ⊤ := by
  obtain ⟨ε, _, _, h⟩ := gap_real hX
  rw [h]
  exact EReal.coe_lt_top _

/-- A coordinate difference squared, between two points. -/
theorem near_square {a b : ℝ} (ha : |a| ≤ 250000000) (hb : |b| ≤ 250000000) : (a - b) * (a - b) ≤ 250000000000000000 := by
  have := abs_le.mp ha
  have := abs_le.mp hb
  nlinarith

/-- A coordinate difference squared, from a point to a padding point. -/
theorem far_square {a : ℝ} (ha : |a| ≤ 250000000) : 562500000000000000 ≤ (a - 1000000000) * (a - 1000000000) := by
  have := abs_le.mp ha
  nlinarith

/-- A padding point is farther from a point than every point is. -/
theorem gap_far (hX : ∀ i a, x (ix2 i a) = X i a) (hB : ∀ i a, |X i a| ≤ 250000000) (i c : Fin 5000) (p : Fin 5120) (hp : 5000 ≤ p.val) :
    gap x (i.castLE (by omega)) (c.castLE (by omega)) < gap x (i.castLE (by omega)) p := by
  obtain ⟨ε, h0, h1, h⟩ := gap_real hX
  rw [h, h, EReal.coe_lt_coe_iff]
  apply Real.sqrt_lt_sqrt (h0.trans (le_max_right _ _))
  have ei : ∀ a, at' X (i.castLE (by omega)) a = X i a := fun a => dif_pos i.isLt
  have ec : ∀ a, at' X (c.castLE (by omega)) a = X c a := fun a => dif_pos c.isLt
  have ep : ∀ a, at' X p a = 1000000000 := fun a => dif_neg (by omega)
  have hn : square X (i.castLE (by omega)) (c.castLE (by omega)) ≤ 750000000000000000 := by
    unfold square
    simp only [ei, ec]
    linarith [near_square (hB i 0) (hB c 0), near_square (hB i 1) (hB c 1), near_square (hB i 2) (hB c 2)]
  have hf : 1687500000000000000 ≤ square X (i.castLE (by omega)) p := by
    unfold square
    simp only [ei, ep]
    linarith [far_square (hB i 0), far_square (hB i 1), far_square (hB i 2)]
  refine lt_of_lt_of_le (max_lt ?_ ?_) (le_max_left _ _) <;> linarith

/-- Among the points the two programs' distances are the same. -/
theorem gap_apart (x : FVec Ideal S5000x3 .f32) (i j : Fin 5000) : gap x (i.castLE (by omega)) (j.castLE (by omega)) = apart x i j := by
  unfold gap apart padded
  simp only [Fin.val_castLE, Fin.is_lt, dif_pos]

/-- The rank of a point among all padded points is its rank among the points. -/
theorem rank_padded (hX : ∀ i a, x (ix2 i a) = X i a) (hB : ∀ i a, |X i a| ≤ 250000000) (i c : Fin 5000) :
    rank (gap x (i.castLE (by omega))) (c.castLE (by omega)) = rank (apart x i) c := by
  rw [rank_castLE (gap x (i.castLE (by omega))) (by omega : 5000 ≤ 5120) (fun c p hp => gap_far hX hB i c p hp) c]
  congr 1
  funext j
  exact gap_apart x i j

end Cert.KernelIdeal.Body
end
-- ==== Proof.RefOut.lean ====
module
public import proofs.«01_k».proof.Proof.Refs
public import Idealize.ShloMosaic.Lib.Pipeline.ValueKit
@[expose] public section
set_option maxRecDepth 16384

/-! # The reference's two results, entry by entry -/

noncomputable section
namespace Cert.ReferenceIdeal.Nearest
open Idealize.ShloMosaic Idealize.SL.Sem Cert.ReferenceIdeal.Read Cert.ReferenceIdeal Cert.Row

variable (x : FVec Ideal S5000x3 .f32)

/-- The row of an edge. -/
def src (e : Fin 150000) : Fin 5000 := ⟨e.val / 30, by omega⟩

/-- The neighbour of an edge: past the nearest one, which is dropped. -/
def dst (e : Fin 150000) : Fin 5000 := nth (apart x (src e)) ⟨e.val % 30 + 1, by omega⟩

/-- The word of an edge's row. -/
theorem word_src (e : Fin 150000) : val_main_v14 (F := Ideal) (ix1 e) = BitVec.ofNat 32 (src e).val := by
  rw [val_main_v14_apply, val_main_v13_apply, val_main_v12_apply]
  rfl

/-- The word of an edge's neighbour. -/
theorem word_dst (e : Fin 150000) : val_main_v15 (F := Ideal) x (ix1 e) = BitVec.ofNat 32 (dst x e).val := by
  rw [val_main_v15_apply, val_main_v11_apply]
  have h : idx_main_v11 (idx_main_v15 (ix1 e)) = ix2 (src e) ⟨e.val % 30 + 1, by omega⟩ := by
    funext a
    match a with
    | ⟨0, _⟩ => rfl
    | ⟨1, _⟩ => exact Fin.ext (Nat.add_comm _ _)
  rw [h]
  exact listed x (src e) _ (rank_nth (apart x (src e)) ⟨e.val % 30 + 1, by omega⟩)

/-- The first result's first line. -/
theorem res_src (e : Fin 150000) : val_main_v18 (F := Ideal) x (ix2 0 e) = BitVec.ofNat 32 (src e).val := by
  unfold val_main_v18
  refine (concatenate_pair_apply_left (t := S2x150000) (s₁ := S1x150000) (s₂ := S1x150000) (0 : Fin 2) _ _ _ (ix2 0 e) rfl (ix2 (0 : Fin 1) e) (fun b => match b with | ⟨0, _⟩ => rfl | ⟨1, _⟩ => rfl)).trans ?_
  rw [val_main_v16_apply]
  exact word_src e

/-- The first result's second line. -/
theorem res_dst (e : Fin 150000) : val_main_v18 (F := Ideal) x (ix2 1 e) = BitVec.ofNat 32 (dst x e).val := by
  unfold val_main_v18
  refine (concatenate_pair_apply_right (t := S2x150000) (s₁ := S1x150000) (s₂ := S1x150000) (0 : Fin 2) _ _ _ (ix2 1 e) rfl rfl (ix2 (0 : Fin 1) e) (fun b hb => ?_) rfl).trans ?_
  · match b, hb with
    | ⟨0, _⟩, hb => exact absurd rfl hb
    | ⟨1, _⟩, _ => rfl
  rw [val_main_v17_apply]
  exact word_dst x e

/-- A place's word is not negative, so it is kept. -/
theorem keep (a : Fin 5000) (b : BitVec 32) :
    Scalar.select (IntOp.cmpi .slt (BitVec.ofNat 32 a.val) 0#32) b (BitVec.ofNat 32 a.val) = BitVec.ofNat 32 a.val := by
  have h : ¬ (BitVec.ofNat 32 a.val).toInt < 0 := by
    rw [BitVec.toInt_eq_toNat_cond, BitVec.toNat_ofNat]; split_ifs <;> omega
  have h' : IntOp.cmpi .slt (BitVec.ofNat 32 a.val) 0#32 = 0#1 := by
    show BitVec.ofBool (BitVec.slt _ _) = 0#1
    rw [BitVec.slt]
    simp only [BitVec.toInt_zero, h, decide_false]
    rfl
  rw [h']
  rfl

/-- The distance of an edge. -/
theorem length (e : Fin 150000) : val_main_v32 (F := Ideal) x (ix1 e) = apart x (src e) (dst x e) := by
  unfold val_main_v32
  refine (gathered _ _ e (src e) (dst x e) ?_ ?_).trans (table x _ _)
  · unfold val_main_v31
    refine (concatenate_pair_apply_left (t := S150000x2) (s₁ := S150000x1) (s₂ := S150000x1) (1 : Fin 2) _ _ _ (ix2 e 0) rfl (ix2 e (0 : Fin 1)) (fun b => match b with | ⟨0, _⟩ => rfl | ⟨1, _⟩ => rfl)).trans ?_
    rw [val_main_v29_apply, show idx_main_v29 (ix2 e 0) = ix1 e from funext fun a => match a with | ⟨0, _⟩ => rfl]
    rw [val_main_v23_apply, val_main_v20_apply, val_main_v19_apply, val_main_c_apply, word_src]
    exact keep _ _
  · unfold val_main_v31
    refine (concatenate_pair_apply_right (t := S150000x2) (s₁ := S150000x1) (s₂ := S150000x1) (1 : Fin 2) _ _ _ (ix2 e 1) rfl rfl (ix2 e (0 : Fin 1)) (fun b hb => ?_) rfl).trans ?_
    · match b, hb with
      | ⟨0, _⟩, _ => rfl
      | ⟨1, _⟩, hb => exact absurd rfl hb
    rw [val_main_v30_apply, show idx_main_v30 (ix2 e 0) = ix1 e from funext fun a => match a with | ⟨0, _⟩ => rfl]
    rw [val_main_v28_apply, val_main_v25_apply, val_main_v24_apply, val_main_c_2_apply, word_dst]
    exact keep _ _

/-- The centres of the radial functions. -/
def centre (l : Fin 32) : EReal := val_main_v36 (F := Ideal) (ix1 l)

/-- The second result. -/
theorem res_rbf (e : Fin 150000) (l : Fin 32) :
    val_main_v50 (F := Ideal) x (ix2 e l)
      = (let D := apart x (src e) (dst x e)
         let inside := FloatOps.cmpf (F := Ideal) (φ := .f32) .ole D (Ideal.ofBits .f32 0x41B00000#32)
         let d : EReal := Scalar.select inside D (Ideal.ofBits .f32 0x00000000#32)
         FloatOps.hostUnary (F := Ideal) (φ := .f32) .exp (FloatOps.hostDivf (F := Ideal) (φ := .f32) (-((d - centre l) * (d - centre l))) (Ideal.ofBits .f32 0x3F480000#32))
          * FloatOps.uitofp (F := Ideal) .f32 inside : EReal) := by
  have h1 : ∀ j : Fin 150000, (val_main_v34 (F := Ideal) x (ix1 j)) = FloatOps.cmpf (F := Ideal) (φ := .f32) .ole (apart x (src j) (dst x j)) (Ideal.ofBits .f32 0x41B00000#32) := fun j => by
    rw [val_main_v34_apply, length, val_main_v33_apply]
    rfl
  have h2 : val_main_v35 (F := Ideal) x (ix1 e) = Scalar.select (FloatOps.cmpf (F := Ideal) (φ := .f32) .ole (apart x (src e) (dst x e)) (Ideal.ofBits .f32 0x41B00000#32)) (apart x (src e) (dst x e)) (Ideal.ofBits .f32 0x00000000#32) := by
    rw [val_main_v35_apply, length, h1, val_main_call0_v1_apply]
    rfl
  have e1 : idx_main_v37 (idx_main_v39 (ix2 e l)) = ix1 e := funext fun a => match a with | ⟨0, _⟩ => rfl
  have e2 : idx_main_v38 (idx_main_v40 (ix2 e l)) = ix1 l := funext fun a => match a with | ⟨0, _⟩ => rfl
  have e3 : idx_main_v47 (idx_main_v49 (ix2 e l)) = ix1 e := funext fun a => match a with | ⟨0, _⟩ => rfl
  rw [val_main_v50_apply, val_main_v46_apply, val_main_v45_apply, val_main_v43_apply, val_main_v42_apply, val_main_v41_apply,
    val_main_v39_apply, val_main_v37_apply, e1, h2, val_main_v40_apply, val_main_v38_apply, e2,
    val_main_v49_apply, val_main_v48_apply, val_main_v47_apply, e3, h1, val_main_v44_apply]
  rfl

end Cert.ReferenceIdeal.Nearest
end
-- ==== Proof.Centre.lean ====
module
public import proofs.«01_k».proof.Proof.RefOut
@[expose] public section
set_option maxRecDepth 16384

/-! # The centres of the radial functions -/

noncomputable section
namespace Cert.ReferenceIdeal.Nearest
open Idealize.ShloMosaic Idealize.SL.Sem Cert.ReferenceIdeal.Read Cert.ReferenceIdeal Cert.Row

/-- The literal 2. -/
theorem lit_two : Ideal.ofBits FTy.f32 0x40000000#32 = ((2 : ℝ) : EReal) := by
  simp [Ideal.ofBits, Ideal.ieee]
  rw [← EReal.coe_mul]; congr 1; norm_num
/-- The literal 22. -/
theorem lit_cut : Ideal.ofBits FTy.f32 0x41B00000#32 = ((22 : ℝ) : EReal) := by
  simp [Ideal.ofBits, Ideal.ieee]
  rw [← EReal.coe_mul]; congr 1; norm_num
/-- The literal 31. -/
theorem lit_gaps : Ideal.ofBits FTy.f32 0x41F80000#32 = ((31 : ℝ) : EReal) := by
  simp [Ideal.ofBits, Ideal.ieee]
  rw [← EReal.coe_mul]; congr 1; norm_num
/-- The literal 1. -/
theorem lit_one : Ideal.ofBits FTy.f32 0x3F800000#32 = ((1 : ℝ) : EReal) := by
  simp [Ideal.ofBits, Ideal.ieee]
  rw [← EReal.coe_mul, ← EReal.coe_one]; congr 1; norm_num
/-- The literal 25/32. -/
theorem lit_width : Ideal.ofBits FTy.f32 0x3F480000#32 = ((25 / 32 : ℝ) : EReal) := by
  simp [Ideal.ofBits, Ideal.ieee]
  rw [← EReal.coe_mul]; congr 1; norm_num
/-- The literal 0. -/
theorem lit_zero : Ideal.ofBits FTy.f32 0x00000000#32 = 0 := by
  simp [Ideal.ofBits, Ideal.ieee]

/-- A small number read back from its word. -/
theorem word_real (l : ℕ) (h : l < 32) : (FloatOps.sitofp (F := Ideal) .f32 (BitVec.ofNat 32 l) : EReal) = ((l : ℝ) : EReal) := by
  show (((BitVec.ofNat 32 l).toInt : ℝ) : EReal) = _
  have : (BitVec.ofNat 32 l).toInt = (l : ℤ) := by
    rw [BitVec.toInt_eq_toNat_cond, BitVec.toNat_ofNat]; split_ifs <;> omega
  rw [this]
  norm_num

/-- The reference's centres are evenly spaced from 2 to 22. -/
theorem centre_eq (l : Fin 32) : centre l = ((2 + l.val * (20 / 31) : ℝ) : EReal) := by
  unfold centre val_main_v36
  by_cases h : l.val < 31
  · refine (concatenate_pair_apply_left (t := S32) (s₁ := S31) (s₂ := S1) (0 : Fin 1) _ _ _ (ix1 l) rfl (ix1 (⟨l.val, h⟩ : Fin 31))
      (fun b => match b with | ⟨0, _⟩ => rfl)).trans ?_
    rw [val_main_call1_v15_apply, val_main_call1_v11_apply, val_main_call1_v14_apply, val_main_call1_v9_apply, val_main_call1_v6_apply,
      val_main_call1_v10_apply, val_main_call1_v13_apply, val_main_call1_v8_apply, val_main_call1_v5_apply]
    show (Ideal.ofBits FTy.f32 0x40000000#32 * (Ideal.ofBits FTy.f32 0x3F800000#32 - Ideal.div (FloatOps.sitofp (F := Ideal) .f32 (BitVec.ofNat 32 l.val)) (Ideal.ofBits FTy.f32 0x41F80000#32))
      + Ideal.ofBits FTy.f32 0x41B00000#32 * Ideal.div (FloatOps.sitofp (F := Ideal) .f32 (BitVec.ofNat 32 l.val)) (Ideal.ofBits FTy.f32 0x41F80000#32) : EReal) = _
    rw [word_real l.val l.isLt, lit_two, lit_one, lit_gaps, lit_cut, Ideal.div_coe (by norm_num)]
    rw [← EReal.coe_mul, ← EReal.coe_sub, ← EReal.coe_mul, ← EReal.coe_mul, ← EReal.coe_add]
    congr 1
    ring
  · have e : l.val = 31 := by omega
    refine (concatenate_pair_apply_right (t := S32) (s₁ := S31) (s₂ := S1) (0 : Fin 1) _ _ _ (ix1 l) rfl rfl (ix1 (0 : Fin 1))
      (fun b hb => absurd (Subsingleton.elim _ _) hb) ?_).trans ?_
    · show 0 + 31 = l.val
      omega
    rw [val_main_call1_v16_apply]
    show Ideal.ofBits FTy.f32 0x41B00000#32 = _
    rw [lit_cut, e]
    congr 1
    norm_num

end Cert.ReferenceIdeal.Nearest
end
-- ==== Proof.Radial.lean ====
module
public import proofs.«01_k».proof.Proof.Centre
public import proofs.«01_k».proof.Proof.Outs
public import Idealize.ShloMosaic.Lib.Pointwise
@[expose] public section
set_option maxRecDepth 16384

/-! # The radial functions of the two programs agree -/

noncomputable section
namespace Cert.KernelIdeal.Body
open Idealize.ShloMosaic Idealize.SL.Sem Cert.KernelIdeal Cert.ReferenceIdeal.Nearest

/-- The literal 22 as the kernel writes it, kept folded. -/
abbrev cut : EReal := Ideal.ofBits .f32 0x41B00000#32

/-- The kernel's radial functions of a distance, read down to numbers. -/
theorem radial_read (s : St Ideal) (r : Fin 512) (l : Fin 32) :
    s.radial (ix3 r 0 l)
      = Ideal.exp ((0 - ((if s.low (ix2 r 0) ≤ cut then s.low (ix2 r 0) else 0)
            - (Ideal.ofBits .f32 0x40000000#32 + FloatOps.sitofp (F := Ideal) .f32 (BitVec.ofNat 32 l.val) * ((20 / 31 : ℝ) : EReal)))
          * ((if s.low (ix2 r 0) ≤ cut then s.low (ix2 r 0) else 0)
            - (Ideal.ofBits .f32 0x40000000#32 + FloatOps.sitofp (F := Ideal) .f32 (BitVec.ofNat 32 l.val) * ((20 / 31 : ℝ) : EReal))))
          * ((32 / 25 : ℝ) : EReal))
        * FloatOps.sitofp (F := Ideal) .f32 (BitVec.setWidth 32 (BitVec.ofBool (decide (s.low (ix2 r 0) ≤ cut)))) := by
  pointwise [St.radial, centres, St.within]
  rfl

end Cert.KernelIdeal.Body
end
-- ==== Proof.RadialEq.lean ====
module
public import proofs.«01_k».proof.Proof.Centre
public import proofs.«01_k».proof.Proof.Radial
@[expose] public section
set_option maxRecDepth 16384

/-! # The radial functions of the two programs agree -/

noncomputable section
namespace Cert.KernelIdeal.Body
open Idealize.ShloMosaic Idealize.SL.Sem Cert.KernelIdeal Cert.ReferenceIdeal.Nearest

/-- The kernel's radial functions of a distance are the reference's. -/
theorem radial_eq (s : St Ideal) (r : Fin 512) (l : Fin 32) (D : EReal) (hD : s.low (ix2 r 0) = D) :
    s.radial (ix3 r 0 l)
      = (let inside := FloatOps.cmpf (F := Ideal) (φ := .f32) .ole D (Ideal.ofBits .f32 0x41B00000#32)
         let d : EReal := Scalar.select inside D (Ideal.ofBits .f32 0x00000000#32)
         FloatOps.hostUnary (F := Ideal) (φ := .f32) .exp (FloatOps.hostDivf (F := Ideal) (φ := .f32) (-((d - centre l) * (d - centre l))) (Ideal.ofBits .f32 0x3F480000#32))
          * FloatOps.uitofp (F := Ideal) .f32 inside : EReal) := by
  rw [radial_read, hD, centre_eq, word_real l.val l.isLt, lit_two, lit_width, lit_zero, ← EReal.coe_mul, ← EReal.coe_add]
  show _ = Ideal.exp (Ideal.div (-((Scalar.select (BitVec.ofBool (decide (D ≤ cut))) D 0 - _) * (Scalar.select (BitVec.ofBool (decide (D ≤ cut))) D 0 - _))) _)
      * (((BitVec.ofBool (decide (D ≤ cut))).toNat : ℝ) : EReal)
  rw [Ideal.div_coe (by norm_num)]
  have hw : (1 / (25 / 32) : ℝ) = 32 / 25 := by norm_num
  have hb : (FloatOps.sitofp (F := Ideal) .f32 (BitVec.setWidth 32 (BitVec.ofBool (decide (D ≤ cut)))) : EReal)
      = (((BitVec.ofBool (decide (D ≤ cut))).toNat : ℝ) : EReal) := by
    show (((BitVec.setWidth 32 (BitVec.ofBool (decide (D ≤ cut)))).toInt : ℝ) : EReal) = _
    cases decide (D ≤ cut) <;> simp
  have hd : (if D ≤ cut then D else 0) = Scalar.select (BitVec.ofBool (decide (D ≤ cut))) D 0 := by
    unfold Scalar.select
    by_cases h : D ≤ cut <;> simp [h]
  rw [hw, hb, hd, zero_sub]

end Cert.KernelIdeal.Body
end
-- ==== Proof.Near.lean ====
module
public import proofs.«01_k».proof.Proof.Gen.Pre_near
public import Idealize.ShloMosaic.Lib.ReduceAll
public import Idealize.ShloMosaic.Lib.Pointwise
@[expose] public section
set_option maxRecDepth 16384

/-! # What the precondition says of the coordinates -/

noncomputable section
namespace Cert.Pre_near
open Idealize.ShloMosaic Idealize.SL.Sem

/-- The literal a quarter of the padding coordinate. -/
theorem lit_quarter : Ideal.ofBits FTy.f32 0x4D6E6B28#32 = ((250000000 : ℝ) : EReal) := by
  simp [Ideal.ofBits, Ideal.ieee]
  rw [← EReal.coe_pow, ← EReal.coe_mul]; congr 1; norm_num

instance : Subsingleton S_.Idx := ⟨fun a b => funext fun i => i.elim0⟩

/-- A number and its negation both at most a real are a real of that size. -/
theorem real_of_abs {v : EReal} {b : ℝ} (h : max v (-v) ≤ (b : EReal)) : ∃ r : ℝ, v = r ∧ |r| ≤ b := by
  induction v using EReal.rec with
  | bot => simp at h
  | top => simp at h
  | coe r =>
    refine ⟨r, rfl, ?_⟩
    rw [← EReal.coe_neg, max_le_iff, EReal.coe_le_coe_iff, EReal.coe_le_coe_iff] at h
    exact abs_le.mpr ⟨by linarith [h.2], h.1⟩

/-- Under the precondition every coordinate is a real of at most a quarter of the padding coordinate. -/
theorem coordinates (x : FVec Ideal S5000x3 .f32) (h : fn (F := Ideal) x = fun _ => 1#1) (i : Fin 5000) (a : Fin 3) :
    ∃ r : ℝ, x (ix2 i a) = r ∧ |r| ≤ 250000000 := by
  apply real_of_abs
  have h0 := congrFun h (Shape.Idx.first Gen.h_S_)
  unfold fn at h0
  have h1 := Host.reduce_andi_all _ _ _ _ _ h0 (ix2 i a)
  pointwise at h1
  rw [lit_quarter] at h1
  change BitVec.ofBool (decide (max (x (ix2 i a)) (-x (ix2 i a)) ≤ ((250000000 : ℝ) : EReal))) = 1#1 at h1
  by_contra hn
  rw [decide_eq_false hn] at h1
  exact absurd h1 (by decide)

end Cert.Pre_near
end
-- ==== Proof.Same.lean ====
module
public import proofs.«01_k».proof.Proof.Tail
public import proofs.«01_k».proof.Proof.Pads
public import proofs.«01_k».proof.Proof.RadialEq
public import proofs.«01_k».proof.Proof.Near
@[expose] public section
set_option maxRecDepth 16384

/-! # The results of the two programs agree -/

noncomputable section
namespace Cert.KernelIdeal.Body
open Idealize.ShloMosaic Idealize.ShloMosaic.Pipeline Idealize.SL.Sem Cert.KernelIdeal.Gen Cert.KernelIdeal Cert.Row Cert.ReferenceIdeal.Nearest

variable (m : (ℓ : Loc nD τ sig) → Buf (Elt Ideal) ℓ)

/-- Under the precondition the coordinates are reals of at most a quarter of the padding coordinate. -/
theorem reals (c : Dev nD) (h : Cert.Pre_near.fn (F := Ideal) (points m c) = fun _ => 1#1) :
    ∃ X : Fin 5000 → Fin 3 → ℝ, (∀ i a, points m c (ix2 i a) = X i a) ∧ ∀ i a, |X i a| ≤ 250000000 := by
  choose X hX hB using Cert.Pre_near.coordinates (points m c) h
  exact ⟨X, hX, hB⟩

variable {m}

/-- The state after `k` rounds holds the distance and the column of a row's point of rank `k`. -/
theorem found (c : Dev nD) (h : Cert.Pre_near.fn (F := Ideal) (points m c) = fun _ => 1#1) (i j : Fin 5000) {k : ℕ}
    (hk : rank (apart (points m c) i) j = k) :
    let i' : Fin 5120 := i.castLE (by omega)
    let s := stAt (iblk m c 0 (pointOf i')) (iblk m c 1 (pointOf i')) k
    s.low (ix2 (inBlock i') 0) = apart (points m c) i j ∧ s.arg (ix2 (inBlock i') 0) = BitVec.ofNat 32 j.val := by
  obtain ⟨X, hX, hB⟩ := reals m c h
  intro i' s
  have hrow : rowOf (pointOf i') (inBlock i') = i' := Fin.ext (by
    show 512 * (i'.val / 512) + i'.val % 512 = i'.val
    omega)
  have hd : dist (iblk m c 0 (pointOf i')) (iblk m c 1 (pointOf i')) (inBlock i') = gap (points m c) i' := by
    rw [dist_iblk, hrow]
  have hr : rank (dist (iblk m c 0 (pointOf i')) (iblk m c 1 (pointOf i')) (inBlock i')) (j.castLE (by omega)) = k := by
    rw [hd, rank_padded hX hB, hk]
  have hs := stAt_dist (inBlock i') (fun q => by rw [hd]; exact gap_finite hX _ _) hr
  rw [hd, gap_apart] at hs
  exact hs

/-- Every edge's column is the reference's neighbour. -/
theorem idx_eq (c : Dev nD) (h : Cert.Pre_near.fn (F := Ideal) (points m c) = fun _ => 1#1) (e : Fin 150000) :
    idxArr m c (ix2 (edgeRow e) ⟨e.val % 30, by omega⟩) = BitVec.ofNat 32 (dst (points m c) e).val := by
  have hf := found c h (src e) (dst (points m c) e) (rank_nth (apart (points m c) (src e)) ⟨e.val % 30 + 1, by omega⟩)
  refine Eq.trans ?_ hf.2
  exact outs_idx m c (pointOf (edgeRow e)) (inBlock (edgeRow e)) ⟨e.val % 30, by omega⟩ (Nat.mod_lt _ (by omega))

/-- Every edge's radial functions are the reference's. -/
theorem rbf_eq (c : Dev nD) (h : Cert.Pre_near.fn (F := Ideal) (points m c) = fun _ => 1#1) (e : Fin 150000) (l : Fin 32) :
    rbfArr m c (ix3 (edgeRow e) ⟨e.val % 30, by omega⟩ l)
      = Cert.ReferenceIdeal.Read.val_main_v50 (F := Ideal) (points m c) (ix2 e l) := by
  have hf := found c h (src e) (dst (points m c) e) (rank_nth (apart (points m c) (src e)) ⟨e.val % 30 + 1, by omega⟩)
  rw [res_rbf, ← radial_eq _ _ l _ hf.1]
  exact outs_rbf m c (pointOf (edgeRow e)) (inBlock (edgeRow e)) ⟨e.val % 30, by omega⟩ l

/-- The first result is the reference's. -/
theorem result_idx (c : Dev nD) (h : Cert.Pre_near.fn (F := Ideal) (points m c) = fun _ => 1#1) :
    (Pipeline.afterTail₀ cfgs (dats m) 0 (V0 m) [hostOps1] c main_v20 : IVec S2x150000 32)
      = Cert.ReferenceIdeal.Read.val_main_v18 (F := Ideal) (points m c) := by
  funext y
  obtain ⟨a, e, rfl⟩ : ∃ (a : Fin 2) (e : Fin 150000), y = ix2 a e := ⟨y 0, y 1, eq_ix2 y⟩
  match a with
  | 0 => rw [out_src, res_src]; rfl
  | 1 => rw [out_dst, res_dst, idx_eq c h]

/-- The second result is the reference's. -/
theorem result_rbf (c : Dev nD) (h : Cert.Pre_near.fn (F := Ideal) (points m c) = fun _ => 1#1) :
    (Pipeline.afterTail₀ cfgs (dats m) 0 (V0 m) [hostOps1] c main_v22 : FVec Ideal S150000x32 .f32)
      = Cert.ReferenceIdeal.Read.val_main_v50 (F := Ideal) (points m c) := by
  funext y
  obtain ⟨e, l, rfl⟩ : ∃ (e : Fin 150000) (l : Fin 32), y = ix2 e l := ⟨y 0, y 1, eq_ix2 y⟩
  rw [out_rbf, rbf_eq c h]

end Cert.KernelIdeal.Body
end
-- ==== Proof.Claims.lean ====
module
public import proofs.«01_k».proof.Defs
public import proofs.«01_k».proof.Proof.Same
public import proofs.«01_k».proof.Proof.Gen.Kernel.Frame
public import proofs.«01_k».proof.Proof.Gen.ReferenceIdeal.Run
public import Idealize.ShloMosaic.Lib.Quiescent
@[expose] public section
set_option maxRecDepth 16384

/-! # The claims, one by one -/

noncomputable section
open Idealize.ShloMosaic Idealize.ShloMosaic.TcCoe Idealize.SL.Sem

namespace Cert.KernelIdeal.Body
open Cert.KernelIdeal Cert.KernelIdeal.Gen

/-- Under the precondition every run of the kernel ends with the reference's two terms in its results, and with its
    argument unchanged. -/
theorem run_terms (m : (ℓ : Loc nD τ sig) → Buf (Elt Ideal) ℓ) (g : Dev nD → PrngReg)
    (h : ∀ c : Dev nD, Cert.Pre_near.fn (F := Ideal) (points m c) = fun _ => 1#1) :
    θ_run (defs (F := Ideal)) (onTc (τ := τ) (main (F := Ideal))) ⟨m, fun _ => 0, g⟩ (fun r => ∀ c : Dev nD,
      r.2.mem ((c.tc : Thread nD τ).loc main_v20) = Cert.ReferenceIdeal.Read.val_main_v18 (F := Ideal) (points m c)
      ∧ r.2.mem ((c.tc : Thread nD τ).loc main_v22) = Cert.ReferenceIdeal.Read.val_main_v50 (F := Ideal) (points m c)
      ∧ r.2.mem ((c.tc : Thread nD τ).loc main_arg0) = m ((c.tc : Thread nD τ).loc main_arg0)) :=
  (θ_run defs _ _).mono (fun _ hr c =>
      ⟨((hr.1 c).2 main_v20 (by decide)).trans (result_idx c (h c)),
        ((hr.1 c).2 main_v22 (by decide)).trans (result_rbf c (h c)), hr.2 c⟩)
    (θ_run_and (run_main m g) (unchanged m g))

end Cert.KernelIdeal.Body

namespace Cert.Proof

/-- The kernel as it is: it ends, its argument unchanged, every semaphore at zero. -/
theorem frame_kernel : Cert.quiescent_Kernel := fun m g _ => Cert.Kernel.Gen.frame m g

/-- The same of the kernel over the reals. -/
theorem frame_ideal : Cert.quiescent_KernelIdeal := fun m g _ => Cert.KernelIdeal.Gen.frame m g

/-- The same again, where the precondition holds. -/
theorem frame_ideal_near : Cert.quiescent_KernelIdeal_pre_near := fun m g _ => Cert.KernelIdeal.Gen.frame m g

/-- The reference ends, its argument unchanged; it has no semaphores. -/
theorem frame_reference : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- The same again, where the precondition holds. -/
theorem frame_reference_near : Cert.quiescent_ReferenceIdeal_pre_near := fun m g _ => frame_reference m g trivial

/-- The two named literals are the printed words of the reals they are named for. -/
theorem preserves : Cert.preserves_Kernel_KernelIdeal :=
  ⟨IdealRules.named_const.statement Cert.KernelIdeal.κ "rbf_step" .f32 0x3F25294A#32 ((20 / 31 : ℝ) : EReal) rfl,
    IdealRules.named_const.statement Cert.KernelIdeal.κ "rbf_scale" .f32 0x3FA3D70A#32 ((32 / 25 : ℝ) : EReal) rfl⟩

/-- Over the reals, both results of the kernel are those of the reference, for points within the bound. -/
theorem algebraic : Cert.algebraic_KernelIdeal_ReferenceIdeal_pre_near := by
  intro m g m' g' hpre hagree
  refine ⟨_, _, Cert.KernelIdeal.Body.run_terms m g hpre, ?_⟩
  refine (θ_run Cert.ReferenceIdeal.defs _ _).mono (fun _ h c => ⟨(h c).1.trans ?_, (h c).2.1.trans ?_, (h c).2.2⟩)
    (Cert.ReferenceIdeal.Value.run (F := Ideal) m' g')
  · rw [hagree c]
    exact Cert.ReferenceIdeal.Read.val_main_v18_eq _
  · rw [Cert.ReferenceIdeal.Read.val_main_v50_eq, hagree c]
    rfl

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_near
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims, from the claims proved one by one in Proof/Claims.lean. -/
theorem claim : Cert.Claim := ⟨Cert.Kernel.Gen.facts, Cert.KernelIdeal.Gen.facts, Cert.ReferenceIdeal.Gen.facts, Cert.Pre_near.Gen.facts,
  frame_kernel, frame_ideal, frame_ideal_near, frame_reference, frame_reference_near, preserves, algebraic⟩

end Cert.Proof

end
